-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16384x32 : Shape := ⟨2, ![16384, 32]⟩
abbrev S16384 : Shape := ⟨1, ![16384]⟩
abbrev S5x32x32 : Shape := ⟨3, ![5, 32, 32]⟩
abbrev S5x32 : Shape := ⟨2, ![5, 32]⟩
abbrev S32x32 : Shape := ⟨2, ![32, 32]⟩
abbrev S32 : Shape := ⟨1, ![32]⟩
abbrev S_ : Shape := ⟨0, ![]⟩

class Facts : Prop where
  bcast_S_S5x32 : S_.BroadcastsInDim S5x32 (![] : Fin 0 → Fin S5x32.rank)
  bcast_S_S5x32x32 : S_.BroadcastsInDim S5x32x32 (![] : Fin 0 → Fin S5x32x32.rank)
  bcast_S_S16384 : S_.BroadcastsInDim S16384 (![] : Fin 0 → Fin S16384.rank)

variable [Facts]

def fn_part2 {F : FTy → Type} [FloatOps F] (main_v28 : IVec S5x32 1) (main_v31 : IVec S5x32x32 1) (main_v33 : IVec S16384 1) (main_v35 : IVec S16384 1) : IVec S5x32 1 × IVec S5x32x32 1 × IVec S16384 1 :=
  let main_v36 : IVec S16384 1 := andi main_v33 main_v35
  (main_v28, main_v31, main_v36)

def fn_part1 {F : FTy → Type} [FloatOps F] (main_arg1 : IVec S16384 32) (main_arg4 : FVec F S5x32x32 .f32) (main_arg11 : FVec F S5x32 .f32) (main_arg15 : FVec F S5x32 .f32) (main_v18 : IVec S5x32 1) : IVec S5x32 1 × IVec S5x32x32 1 × IVec S16384 1 :=
  let main_cst_4 : FVec F S_ .f32 := constant S_ .f32 0x3727C5AC#32
  let main_v19 : FVec F S5x32 .f32 := broadcastInDim S5x32 ![] bcast_S_S5x32 main_cst_4
  let main_v20 : FVec F S5x32 .f32 := addf main_arg11 main_v19
  let main_cst_5 : FVec F S_ .f32 := constant S_ .f32 0x00000000#32
  let main_v21 : FVec F S5x32 .f32 := broadcastInDim S5x32 ![] bcast_S_S5x32 main_cst_5
  let main_v22 : IVec S5x32 1 := cmpf .ogt main_v20 main_v21
  let main_v23 : IVec S5x32 1 := andi main_v18 main_v22
  let main_cst_6 : FVec F S_ .f32 := constant S_ .f32 0x3727C5AC#32
  let main_v24 : FVec F S5x32 .f32 := broadcastInDim S5x32 ![] bcast_S_S5x32 main_cst_6
  let main_v25 : FVec F S5x32 .f32 := addf main_arg15 main_v24
  let main_cst_7 : FVec F S_ .f32 := constant S_ .f32 0x00000000#32
  let main_v26 : FVec F S5x32 .f32 := broadcastInDim S5x32 ![] bcast_S_S5x32 main_cst_7
  let main_v27 : IVec S5x32 1 := cmpf .ogt main_v25 main_v26
  let main_v28 : IVec S5x32 1 := andi main_v23 main_v27
  let main_v29 : FVec F S5x32x32 .f32 := Host.absf main_arg4
  let main_cst_8 : FVec F S_ .f32 := constant S_ .f32 0x7F800000#32
  let main_v30 : FVec F S5x32x32 .f32 := broadcastInDim S5x32x32 ![] bcast_S_S5x32x32 main_cst_8
  let main_v31 : IVec S5x32x32 1 := cmpf .olt main_v29 main_v30
  let main_c : IVec S_ 32 := constantI S_ 32 0#32
  let main_v32 : IVec S16384 32 := broadcastInDim S16384 ![] bcast_S_S16384 main_c
  let main_v33 : IVec S16384 1 := cmpi .sge main_arg1 main_v32
  let main_c_9 : IVec S_ 32 := constantI S_ 32 5#32
  let main_v34 : IVec S16384 32 := broadcastInDim S16384 ![] bcast_S_S16384 main_c_9
  let main_v35 : IVec S16384 1 := cmpi .slt main_arg1 main_v34
  fn_part2 (F := F) main_v28 main_v31 main_v33 main_v35

def fn {F : FTy → Type} [FloatOps F] (main_arg0 : FVec F S16384x32 .f32) (main_arg1 : IVec S16384 32) (main_arg2 : FVec F S5x32x32 .f32) (main_arg3 : FVec F S5x32 .f32) (main_arg4 : FVec F S5x32x32 .f32) (main_arg5 : FVec F S5x32 .f32) (main_arg6 : FVec F S5x32x32 .f32) (main_arg7 : FVec F S5x32 .f32) (main_arg8 : FVec F S5x32 .f32) (main_arg9 : FVec F S5x32 .f32) (main_arg10 : FVec F S5x32 .f32) (main_arg11 : FVec F S5x32 .f32) (main_arg12 : FVec F S5x32 .f32) (main_arg13 : FVec F S5x32 .f32) (main_arg14 : FVec F S5x32 .f32) (main_arg15 : FVec F S5x32 .f32) (main_arg16 : FVec F S32x32 .f32) (main_arg17 : FVec F S32 .f32) : IVec S5x32 1 × IVec S5x32x32 1 × IVec S16384 1 :=
  let main_v0 : FVec F S5x32 .f32 := Host.absf main_arg8
  let main_cst : FVec F S_ .f32 := constant S_ .f32 0x7F800000#32
  let main_v1 : FVec F S5x32 .f32 := broadcastInDim S5x32 ![] bcast_S_S5x32 main_cst
  let main_v2 : IVec S5x32 1 := cmpf .olt main_v0 main_v1
  let main_v3 : FVec F S5x32 .f32 := Host.absf main_arg9
  let main_cst_0 : FVec F S_ .f32 := constant S_ .f32 0x7F800000#32
  let main_v4 : FVec F S5x32 .f32 := broadcastInDim S5x32 ![] bcast_S_S5x32 main_cst_0
  let main_v5 : IVec S5x32 1 := cmpf .olt main_v3 main_v4
  let main_v6 : IVec S5x32 1 := andi main_v2 main_v5
  let main_v7 : FVec F S5x32 .f32 := Host.absf main_arg10
  let main_cst_1 : FVec F S_ .f32 := constant S_ .f32 0x7F800000#32
  let main_v8 : FVec F S5x32 .f32 := broadcastInDim S5x32 ![] bcast_S_S5x32 main_cst_1
  let main_v9 : IVec S5x32 1 := cmpf .olt main_v7 main_v8
  let main_v10 : IVec S5x32 1 := andi main_v6 main_v9
  let main_v11 : FVec F S5x32 .f32 := Host.absf main_arg12
  let main_cst_2 : FVec F S_ .f32 := constant S_ .f32 0x7F800000#32
  let main_v12 : FVec F S5x32 .f32 := broadcastInDim S5x32 ![] bcast_S_S5x32 main_cst_2
  let main_v13 : IVec S5x32 1 := cmpf .olt main_v11 main_v12
  let main_v14 : IVec S5x32 1 := andi main_v10 main_v13
  let main_v15 : FVec F S5x32 .f32 := Host.absf main_arg14
  let main_cst_3 : FVec F S_ .f32 := constant S_ .f32 0x7F800000#32
  let main_v16 : FVec F S5x32 .f32 := broadcastInDim S5x32 ![] bcast_S_S5x32 main_cst_3
  let main_v17 : IVec S5x32 1 := cmpf .olt main_v15 main_v16
  let main_v18 : IVec S5x32 1 := andi main_v14 main_v17
  fn_part1 (F := F) main_arg1 main_arg4 main_arg11 main_arg15 main_v18
-- ==== Kernel.lean ====
abbrev S16384x32 : Shape := ⟨2, ![16384, 32]⟩
abbrev S16384 : Shape := ⟨1, ![16384]⟩
abbrev S5x32x32 : Shape := ⟨3, ![5, 32, 32]⟩
abbrev S5x32 : Shape := ⟨2, ![5, 32]⟩
abbrev S32x32 : Shape := ⟨2, ![32, 32]⟩
abbrev S32 : Shape := ⟨1, ![32]⟩
abbrev S128x128 : Shape := ⟨2, ![128, 128]⟩
abbrev S32x128 : Shape := ⟨2, ![32, 128]⟩
abbrev S4096x32 : Shape := ⟨2, ![4096, 32]⟩
abbrev S32x224 : Shape := ⟨2, ![32, 224]⟩
abbrev S224x160 : Shape := ⟨2, ![224, 160]⟩
abbrev S160x32 : Shape := ⟨2, ![160, 32]⟩
abbrev S8x224 : Shape := ⟨2, ![8, 224]⟩
abbrev S32x5 : Shape := ⟨2, ![32, 5]⟩
abbrev S1x32x32 : Shape := ⟨3, ![1, 32, 32]⟩
abbrev S32x1 : Shape := ⟨2, ![32, 1]⟩
abbrev S1x32 : Shape := ⟨2, ![1, 32]⟩
abbrev S4096x224 : Shape := ⟨2, ![4096, 224]⟩
abbrev S1x224 : Shape := ⟨2, ![1, 224]⟩
abbrev S4096x160 : Shape := ⟨2, ![4096, 160]⟩
abbrev S1x160 : Shape := ⟨2, ![1, 160]⟩
abbrev S128x32 : Shape := ⟨2, ![128, 32]⟩
abbrev S128x160 : Shape := ⟨2, ![128, 160]⟩
abbrev S128x1 : Shape := ⟨2, ![128, 1]⟩

abbrev nBuf : Space → Nat
  | .hbm => 20
  | .vmem => 26
  | .smem => 0
  | _ => 0

abbrev bufTy : (tb : Table) → Fin (tcTables nBuf tb) → BufTy
  | .hbm, ⟨0, _⟩ => ⟨S16384x32, .f32⟩
  | .hbm, ⟨1, _⟩ => ⟨S16384, .i32⟩
  | .hbm, ⟨2, _⟩ => ⟨S5x32x32, .f32⟩
  | .hbm, ⟨3, _⟩ => ⟨S5x32, .f32⟩
  | .hbm, ⟨4, _⟩ => ⟨S5x32x32, .f32⟩
  | .hbm, ⟨5, _⟩ => ⟨S5x32, .f32⟩
  | .hbm, ⟨6, _⟩ => ⟨S5x32x32, .f32⟩
  | .hbm, ⟨7, _⟩ => ⟨S5x32, .f32⟩
  | .hbm, ⟨8, _⟩ => ⟨S5x32, .f32⟩
  | .hbm, ⟨9, _⟩ => ⟨S5x32, .f32⟩
  | .hbm, ⟨10, _⟩ => ⟨S5x32, .f32⟩
  | .hbm, ⟨11, _⟩ => ⟨S5x32, .f32⟩
  | .hbm, ⟨12, _⟩ => ⟨S5x32, .f32⟩
  | .hbm, ⟨13, _⟩ => ⟨S5x32, .f32⟩
  | .hbm, ⟨14, _⟩ => ⟨S5x32, .f32⟩
  | .hbm, ⟨15, _⟩ => ⟨S5x32, .f32⟩
  | .hbm, ⟨16, _⟩ => ⟨S32x32, .f32⟩
  | .hbm, ⟨17, _⟩ => ⟨S32, .f32⟩
  | .hbm, ⟨18, _⟩ => ⟨S128x128, .i32⟩
  | .hbm, ⟨19, _⟩ => ⟨S16384x32, .f32⟩
  | .local _ .vmem, ⟨0, _⟩ => ⟨S32x128, .i32⟩
  | .local _ .vmem, ⟨1, _⟩ => ⟨S32x128, .i32⟩
  | .local _ .vmem, ⟨2, _⟩ => ⟨S4096x32, .f32⟩
  | .local _ .vmem, ⟨3, _⟩ => ⟨S4096x32, .f32⟩
  | .local _ .vmem, ⟨4, _⟩ => ⟨S5x32x32, .f32⟩
  | .local _ .vmem, ⟨5, _⟩ => ⟨S5x32, .f32⟩
  | .local _ .vmem, ⟨6, _⟩ => ⟨S5x32x32, .f32⟩
  | .local _ .vmem, ⟨7, _⟩ => ⟨S5x32, .f32⟩
  | .local _ .vmem, ⟨8, _⟩ => ⟨S5x32x32, .f32⟩
  | .local _ .vmem, ⟨9, _⟩ => ⟨S5x32, .f32⟩
  | .local _ .vmem, ⟨10, _⟩ => ⟨S5x32, .f32⟩
  | .local _ .vmem, ⟨11, _⟩ => ⟨S5x32, .f32⟩
  | .local _ .vmem, ⟨12, _⟩ => ⟨S5x32, .f32⟩
  | .local _ .vmem, ⟨13, _⟩ => ⟨S5x32, .f32⟩
  | .local _ .vmem, ⟨14, _⟩ => ⟨S5x32, .f32⟩
  | .local _ .vmem, ⟨15, _⟩ => ⟨S5x32, .f32⟩
  | .local _ .vmem, ⟨16, _⟩ => ⟨S5x32, .f32⟩
  | .local _ .vmem, ⟨17, _⟩ => ⟨S5x32, .f32⟩
  | .local _ .vmem, ⟨18, _⟩ => ⟨S32x32, .f32⟩
  | .local _ .vmem, ⟨19, _⟩ => ⟨S32, .f32⟩
  | .local _ .vmem, ⟨20, _⟩ => ⟨S4096x32, .f32⟩
  | .local _ .vmem, ⟨21, _⟩ => ⟨S4096x32, .f32⟩
  | .local _ .vmem, ⟨22, _⟩ => ⟨S32x224, .f32⟩
  | .local _ .vmem, ⟨23, _⟩ => ⟨S224x160, .f32⟩
  | .local _ .vmem, ⟨24, _⟩ => ⟨S160x32, .f32⟩
  | .local _ .vmem, ⟨25, _⟩ => ⟨S8x224, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S5x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S5x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S4096x32 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S16384x32 : Shape := ⟨2, ![16384, 32]⟩
abbrev S16384 : Shape := ⟨1, ![16384]⟩
abbrev S5x32x32 : Shape := ⟨3, ![5, 32, 32]⟩
abbrev S5x32 : Shape := ⟨2, ![5, 32]⟩
abbrev S32x32 : Shape := ⟨2, ![32, 32]⟩
abbrev S32 : Shape := ⟨1, ![32]⟩
abbrev S5x32x16384 : Shape := ⟨3, ![5, 32, 16384]⟩
abbrev S5x16384x32 : Shape := ⟨3, ![5, 16384, 32]⟩
abbrev S5x1x32 : Shape := ⟨3, ![5, 1, 32]⟩
abbrev S_ : Shape := ⟨0, ![]⟩
abbrev S16384x1 : Shape := ⟨2, ![16384, 1]⟩
abbrev S16384x2 : Shape := ⟨2, ![16384, 2]⟩
abbrev S1x32 : Shape := ⟨2, ![1, 32]⟩

abbrev nBuf : Space → Nat
  | .hbm => 100
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384, .i32⟩
  | .hbm, ⟨2, _⟩ => ⟨S5x32x32, .f32⟩
  | .hbm, ⟨3, _⟩ => ⟨S5x32, .f32⟩
  | .hbm, ⟨4, _⟩ => ⟨S5x32x32, .f32⟩
  | .hbm, ⟨5, _⟩ => ⟨S5x32, .f32⟩
  | .hbm, ⟨6, _⟩ => ⟨S5x32x32, .f32⟩
  | .hbm, ⟨7, _⟩ => ⟨S5x32, .f32⟩
  | .hbm, ⟨8, _⟩ => ⟨S5x32, .f32⟩
  | .hbm, ⟨9, _⟩ => ⟨S5x32, .f32⟩
  | .hbm, ⟨10, _⟩ => ⟨S5x32, .f32⟩
  | .hbm, ⟨11, _⟩ => ⟨S5x32, .f32⟩
  | .hbm, ⟨12, _⟩ => ⟨S5x32, .f32⟩
  | .hbm, ⟨13, _⟩ => ⟨S5x32, .f32⟩
  | .hbm, ⟨14, _⟩ => ⟨S5x32, .f32⟩
  | .hbm, ⟨15, _⟩ => ⟨S5x32, .f32⟩
  | .hbm, ⟨16, _⟩ => ⟨S32x32, .f32⟩
  | .hbm, ⟨17, _⟩ => ⟨S32, .f32⟩
  | .hbm, ⟨18, _⟩ => ⟨S5x32x16384, .f32⟩
  | .hbm, ⟨19, _⟩ => ⟨S5x16384x32, .f32⟩
  | .hbm, ⟨20, _⟩ => ⟨S5x1x32, .f32⟩
  | .hbm, ⟨21, _⟩ => ⟨S5x16384x32, .f32⟩
  | .hbm, ⟨22, _⟩ => ⟨S5x16384x32, .f32⟩
  | .hbm, ⟨23, _⟩ => ⟨S5x32x16384, .f32⟩
  | .hbm, ⟨24, _⟩ => ⟨S5x16384x32, .f32⟩
  | .hbm, ⟨25, _⟩ => ⟨S5x1x32, .f32⟩
  | .hbm, ⟨26, _⟩ => ⟨S5x16384x32, .f32⟩
  | .hbm, ⟨27, _⟩ => ⟨S5x16384x32, .f32⟩
  | .hbm, ⟨28, _⟩ => ⟨S_, .f32⟩
  | .hbm, ⟨29, _⟩ => ⟨S5x16384x32, .f32⟩
  | .hbm, ⟨30, _⟩ => ⟨S5x16384x32, .f32⟩
  | .hbm, ⟨31, _⟩ => ⟨S5x1x32, .f32⟩
  | .hbm, ⟨32, _⟩ => ⟨S5x1x32, .f32⟩
  | .hbm, ⟨33, _⟩ => ⟨S5x16384x32, .f32⟩
  | .hbm, ⟨34, _⟩ => ⟨S5x16384x32, .f32⟩
  | .hbm, ⟨35, _⟩ => ⟨S5x16384x32, .f32⟩
  | .hbm, ⟨36, _⟩ => ⟨S5x16384x32, .f32⟩
  | .hbm, ⟨37, _⟩ => ⟨S5x1x32, .f32⟩
  | .hbm, ⟨38, _⟩ => ⟨S_, .f32⟩
  | .hbm, ⟨39, _⟩ => ⟨S5x1x32, .f32⟩
  | .hbm, ⟨40, _⟩ => ⟨S5x1x32, .f32⟩
  | .hbm, ⟨41, _⟩ => ⟨S5x1x32, .f32⟩
  | .hbm, ⟨42, _⟩ => ⟨S5x16384x32, .f32⟩
  | .hbm, ⟨43, _⟩ => ⟨S5x16384x32, .f32⟩
  | .hbm, ⟨44, _⟩ => ⟨S5x1x32, .f32⟩
  | .hbm, ⟨45, _⟩ => ⟨S5x16384x32, .f32⟩
  | .hbm, ⟨46, _⟩ => ⟨S5x16384x32, .f32⟩
  | .hbm, ⟨47, _⟩ => ⟨S5x16384x32, .f32⟩
  | .hbm, ⟨48, _⟩ => ⟨S5x1x32, .f32⟩
  | .hbm, ⟨49, _⟩ => ⟨S5x16384x32, .f32⟩
  | .hbm, ⟨50, _⟩ => ⟨S5x16384x32, .f32⟩
  | .hbm, ⟨51, _⟩ => ⟨S5x16384x32, .f32⟩
  | .hbm, ⟨52, _⟩ => ⟨S_, .f32⟩
  | .hbm, ⟨53, _⟩ => ⟨S5x16384x32, .f32⟩
  | .hbm, ⟨54, _⟩ => ⟨S5x16384x32, .f32⟩
  | .hbm, ⟨55, _⟩ => ⟨S5x1x32, .f32⟩
  | .hbm, ⟨56, _⟩ => ⟨S5x1x32, .f32⟩
  | .hbm, ⟨57, _⟩ => ⟨S5x16384x32, .f32⟩
  | .hbm, ⟨58, _⟩ => ⟨S5x16384x32, .f32⟩
  | .hbm, ⟨59, _⟩ => ⟨S5x16384x32, .f32⟩
  | .hbm, ⟨60, _⟩ => ⟨S5x16384x32, .f32⟩
  | .hbm, ⟨61, _⟩ => ⟨S5x1x32, .f32⟩
  | .hbm, ⟨62, _⟩ => ⟨S_, .f32⟩
  | .hbm, ⟨63, _⟩ => ⟨S5x1x32, .f32⟩
  | .hbm, ⟨64, _⟩ => ⟨S5x1x32, .f32⟩
  | .hbm, ⟨65, _⟩ => ⟨S5x1x32, .f32⟩
  | .hbm, ⟨66, _⟩ => ⟨S5x16384x32, .f32⟩
  | .hbm, ⟨67, _⟩ => ⟨S5x16384x32, .f32⟩
  | .hbm, ⟨68, _⟩ => ⟨S5x1x32, .f32⟩
  | .hbm, ⟨69, _⟩ => ⟨S5x16384x32, .f32⟩
  | .hbm, ⟨70, _⟩ => ⟨S5x16384x32, .f32⟩
  | .hbm, ⟨71, _⟩ => ⟨S16384, .i32⟩
  | .hbm, ⟨72, _⟩ => ⟨S_, .i32⟩
  | .hbm, ⟨73, _⟩ => ⟨S16384, .i32⟩
  | .hbm, ⟨74, _⟩ => ⟨S16384, .i1⟩
  | .hbm, ⟨75, _⟩ => ⟨S_, .i32⟩
  | .hbm, ⟨76, _⟩ => ⟨S16384, .i32⟩
  | .hbm, ⟨77, _⟩ => ⟨S16384, .i32⟩
  | .hbm, ⟨78, _⟩ => ⟨S16384, .i32⟩
  | .hbm, ⟨79, _⟩ => ⟨S_, .i32⟩
  | .hbm, ⟨80, _⟩ => ⟨S16384, .i32⟩
  | .hbm, ⟨81, _⟩ => ⟨S16384, .i1⟩
  | .hbm, ⟨82, _⟩ => ⟨S_, .i32⟩
  | .hbm, ⟨83, _⟩ => ⟨S16384, .i32⟩
  | .hbm, ⟨84, _⟩ => ⟨S16384, .i32⟩
  | .hbm, ⟨85, _⟩ => ⟨S16384, .i32⟩
  | .hbm, ⟨86, _⟩ => ⟨S16384x1, .i32⟩
  | .hbm, ⟨87, _⟩ => ⟨S16384x1, .i32⟩
  | .hbm, ⟨88, _⟩ => ⟨S16384x2, .i32⟩
  | .hbm, ⟨89, _⟩ => ⟨S16384x32, .f32⟩
  | .hbm, ⟨90, _⟩ => ⟨S16384x32, .f32⟩
  | .hbm, ⟨91, _⟩ => ⟨S1x32, .f32⟩
  | .hbm, ⟨92, _⟩ => ⟨S16384x32, .f32⟩
  | .hbm, ⟨93, _⟩ => ⟨S16384x32, .f32⟩
  | .hbm, ⟨94, _⟩ => ⟨S_, .f32⟩
  | .hbm, ⟨95, _⟩ => ⟨S16384x32, .f32⟩
  | .hbm, ⟨96, _⟩ => ⟨S16384x32, .f32⟩
  | .hbm, ⟨97, _⟩ => ⟨S_, .f32⟩
  | .hbm, ⟨98, _⟩ => ⟨S16384x32, .f32⟩
  | .hbm, ⟨99, _⟩ => ⟨S16384x32, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_call0_cst : Ref sig .tc := ⟨.hbm, 28, rfl⟩
abbrev main_call0_v0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call1_cst : Ref sig .tc := ⟨.hbm, 52, rfl⟩
abbrev main_call1_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c : Ref sig .tc := ⟨.hbm, 72, rfl⟩
abbrev main_v48 : Ref sig .tc := ⟨.hbm, 73, rfl⟩
abbrev main_v49 : Ref sig .tc := ⟨.hbm, 74, rfl⟩
abbrev main_c_1 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_2 : Ref sig .tc := ⟨.hbm, 79, rfl⟩
abbrev main_v53 : Ref sig .tc := ⟨.hbm, 80, rfl⟩
abbrev main_v54 : Ref sig .tc := ⟨.hbm, 81, rfl⟩
abbrev main_c_3 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_cst : Ref sig .tc := ⟨.hbm, 94, rfl⟩
abbrev main_call2_v0 : Ref sig .tc := ⟨.hbm, 95, rfl⟩
abbrev main_v66 : Ref sig .tc := ⟨.hbm, 96, rfl⟩
abbrev main_cst_4 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Proof.Scalars.lean ====
/-
  The arithmetic of extended reals that folding a batch norm into the weights around it needs: each lemma is about
  single numbers or finite sums of them, and mentions no array.
-/
module

public import Idealize.ShloMosaic.PureOps.Ideal
public import Mathlib.Data.EReal.Inv
public import Mathlib.Algebra.BigOperators.Fin

@[expose] public section

noncomputable section

namespace Cert.Branch

open Idealize.ShloMosaic

/-- An extended real whose absolute value is below infinity is a real number. -/
theorem exists_real_of_abs_lt {x : EReal} (h : max x (-x) < ⊤) : ∃ r : ℝ, x = (r : EReal) := by
  induction x with
  | bot => simp at h
  | top => simp at h
  | coe r => exact ⟨r, rfl⟩

/-- For a positive `p`, the reciprocal square root is a real number `r`, and dividing by the square root is
    multiplying by `r`. At `p = ⊤` both give zero. -/
theorem exists_rsqrt {p : EReal} (hp : 0 < p) :
    ∃ r : ℝ, Ideal.rsqrt p = (r : EReal) ∧ ∀ y : EReal, Ideal.div y (Ideal.sqrt p) = y * (r : EReal) := by
  induction p with
  | bot => simp at hp
  | top => exact ⟨0, rfl, fun y => by simp [Ideal.div]⟩
  | coe s =>
    have hs : 0 < s := by exact_mod_cast hp
    have hq : (Real.sqrt s : EReal) ≠ 0 := by
      have := Real.sqrt_pos.2 hs
      exact_mod_cast this.ne'
    refine ⟨(Real.sqrt s)⁻¹, ?_, fun y => ?_⟩
    · rw [Ideal.rsqrt_coe, if_neg hs.not_gt, if_neg hs.ne']
    · rw [Ideal.sqrt_coe, if_neg hs.not_gt, Ideal.div, if_neg hq, EReal.coe_inv]

/-- The positive and the negative part of `x`, weighted by `w` and by `-w`, add up to `x * w`, at infinities too. -/
theorem relu_split (x w : EReal) : max x 0 * w + max (-x) 0 * (0 - w) = x * w := by
  rcases le_total 0 x with h | h
  · rw [max_eq_left h, max_eq_right (by simpa using EReal.neg_le_neg_iff.2 h), zero_mul, add_zero]
  · rw [max_eq_right h, max_eq_left (by simpa using EReal.neg_le_neg_iff.2 h), zero_mul, zero_add, zero_sub, neg_mul_neg]

/-- A real multiple of `⊤` by a positive, a zero and a negative number. -/
theorem top_cases (t : ℝ) : (0 < t ∧ (⊤ : EReal) * t = ⊤ ∧ (⊥ : EReal) * t = ⊥)
    ∨ (t = 0) ∨ (t < 0 ∧ (⊤ : EReal) * t = ⊥ ∧ (⊥ : EReal) * t = ⊤) := by
  rcases lt_trichotomy t 0 with h | h | h
  · exact .inr (.inr ⟨h, EReal.top_mul_coe_of_neg h, EReal.bot_mul_coe_of_neg h⟩)
  · exact .inr (.inl h)
  · exact .inl ⟨h, EReal.top_mul_coe_of_pos h, EReal.bot_mul_coe_of_pos h⟩

/-- The affine form of a batch norm whose scale, mean and reciprocal deviation are real: subtracting the mean first or
    last is the same, whatever the input and the offset. -/
theorem norm_affine (g m r : ℝ) (b z : EReal) :
    (g : EReal) * (z - m) * r + b = (g * r : EReal) * z + (b - m * (g * r : EReal)) := by
  have key : (g : EReal) * (z - m) * r = (g * r : EReal) * z + (-(m * (g * r)) : ℝ) := by
    have e : (g : EReal) * (z - m) * r = (z - m) * ((g * r : ℝ) : EReal) := by
      rw [mul_comm (g : EReal), mul_assoc, EReal.coe_mul]
    rw [e, ← EReal.coe_mul, mul_comm ((g * r : ℝ) : EReal) z]
    induction z with
    | coe z => norm_cast; ring
    | top =>
      rw [EReal.top_sub_coe]
      rcases top_cases (g * r) with ⟨_, h, _⟩ | h | ⟨_, h, _⟩
      · rw [h, EReal.top_add_coe]
      · simp [h]
      · rw [h, EReal.bot_add]
    | bot =>
      rw [EReal.bot_sub]
      rcases top_cases (g * r) with ⟨_, _, h⟩ | h | ⟨_, _, h⟩
      · rw [h, EReal.bot_add]
      · simp [h]
      · rw [h, EReal.top_add_coe]
  rw [key, add_assoc, add_comm _ b, sub_eq_add_neg]
  congr 2

/-- A real weight distributes over an extended real plus a real. -/
theorem add_real_mul (z : EReal) (d w : ℝ) : (z + d) * (w : EReal) = z * w + (d * w : ℝ) := by
  induction z with
  | coe z => norm_cast; ring
  | top =>
    rw [EReal.top_add_coe]
    rcases top_cases w with ⟨_, h, _⟩ | h | ⟨_, h, _⟩
    · rw [h, EReal.top_add_coe]
    · simp [h]
    · rw [h, EReal.bot_add]
  | bot =>
    rw [EReal.bot_add]
    rcases top_cases w with ⟨_, _, h⟩ | h | ⟨_, _, h⟩
    · rw [h, EReal.bot_add]
    · simp [h]
    · rw [h, EReal.top_add_coe]

/-- A batch norm followed by a real weight is the weight scaled, plus the offset's share of the weight. -/
theorem norm_weight (g m r b w : ℝ) (h : EReal) :
    ((g : EReal) * (h - m) * r + b) * w = h * (g * r * w : EReal) + (b - m * (g * r) : EReal) * w := by
  rw [norm_affine]
  have e : (b : EReal) - m * (g * r : EReal) = ((b - m * (g * r) : ℝ) : EReal) := by norm_cast
  rw [e, add_real_mul, mul_comm (g * r : EReal) h, mul_assoc]
  norm_cast

/-- A positive real factor comes out of a finite sum. -/
theorem sum_mul_real {n : ℕ} (f : Fin n → EReal) {c : ℝ} (hc : 0 ≤ c) :
    ∑ k, f k * (c : EReal) = (∑ k, f k) * (c : EReal) := by
  induction n with
  | zero => simp
  | succ n ih =>
    rw [Fin.sum_univ_succ, Fin.sum_univ_succ, ih,
      EReal.right_distrib_of_nonneg_of_ne_top (by exact_mod_cast hc) (EReal.coe_ne_top c)]

/-- A nonnegative real factor on the weights and on the bias of a rectified layer comes out of the layer. -/
theorem relu_layer_scale {n : ℕ} (h w : Fin n → EReal) (b : EReal) {c : ℝ} (hc : 0 ≤ c) :
    max (∑ k, h k * (w k * (c : EReal)) + b * (c : EReal)) 0 = max (∑ k, h k * w k + b) 0 * (c : EReal) := by
  have e : ∑ k, h k * (w k * (c : EReal)) = (∑ k, h k * w k) * (c : EReal) := by
    rw [← sum_mul_real _ hc]
    exact Finset.sum_congr rfl fun k _ => (mul_assoc _ _ _).symm
  have hc' : (0 : EReal) ≤ (c : EReal) := by exact_mod_cast hc
  rw [e, ← EReal.right_distrib_of_nonneg_of_ne_top hc' (EReal.coe_ne_top c)]
  have mono : Monotone fun y : EReal => y * (c : EReal) := fun _ _ h => mul_le_mul_of_nonneg_right h hc'
  have := mono.map_max (a := ∑ k, h k * w k + b) (b := 0)
  simpa using this.symm

/-- A sum over 224 places is the sum over five groups of 32, then two more groups of 32. -/
theorem sum_224 (f : Fin 224 → EReal) :
    ∑ r, f r = (∑ e : Fin 5, ∑ k : Fin 32, f ⟨e.val * 32 + k.val, by omega⟩)
      + (∑ k : Fin 32, f ⟨160 + k.val, by omega⟩) + ∑ k : Fin 32, f ⟨192 + k.val, by omega⟩ := by
  have h1 : ∑ r, f r = (∑ i : Fin 192, f (Fin.castAdd 32 i)) + ∑ i : Fin 32, f (Fin.natAdd 192 i) :=
    Fin.sum_univ_add (a := 192) (b := 32) f
  have h2 : (∑ i : Fin 192, f (Fin.castAdd 32 i))
      = (∑ i : Fin 160, f (Fin.castAdd 32 (Fin.castAdd 32 i))) + ∑ i : Fin 32, f (Fin.castAdd 32 (Fin.natAdd 160 i)) :=
    Fin.sum_univ_add (a := 160) (b := 32) fun i : Fin 192 => f (Fin.castAdd 32 i)
  rw [h1, h2]
  congr 1
  congr 1
  rw [← finProdFinEquiv.sum_comp (M := EReal) (ι := Fin 5 × Fin 32) (κ := Fin 160), Fintype.sum_prod_type]
  refine Finset.sum_congr rfl fun e _ => Finset.sum_congr rfl fun k _ => congrArg f (Fin.ext ?_)
  simp [finProdFinEquiv]; omega

/-- A sum over 160 places is the sum over five groups of 32. -/
theorem sum_160 (f : Fin 160 → EReal) :
    ∑ r, f r = ∑ e : Fin 5, ∑ k : Fin 32, f ⟨e.val * 32 + k.val, by omega⟩ := by
  rw [← finProdFinEquiv.sum_comp (M := EReal) (ι := Fin 5 × Fin 32) (κ := Fin 160), Fintype.sum_prod_type]
  refine Finset.sum_congr rfl fun e _ => Finset.sum_congr rfl fun k _ => congrArg f (Fin.ext ?_)
  simp [finProdFinEquiv]; omega

end Cert.Branch

end
-- ==== Proof.Token.lean ====
/-
  The equation of this certificate for ONE token: what the kernel's folded, widened weights compute from a token's row is
  what the reference's five experts and its selection compute from it. Arrays appear as functions of their indices.
-/
module

public import proofs.«01_k».proof.Proof.Scalars

@[expose] public section

noncomputable section

namespace Cert.Branch

open Idealize.ShloMosaic

/-- The small number both programs add to a variance. -/
def eps : EReal := Ideal.ofBits .f32 0x3727C5AC#32

/-- The factor both programs put on the result. -/
def wgt : EReal := Ideal.ofBits .f32 0x3F6B851F#32

/-- The factor is a positive real number. -/
theorem wgt_real : ∃ c : ℝ, 0 ≤ c ∧ wgt = (c : EReal) := by
  refine ⟨(15435039 / 16777216 : ℝ), by norm_num, ?_⟩
  unfold wgt
  simp [Ideal.ofBits, Ideal.ieee]
  norm_cast

/-- The learned arrays, each a function of its indices: five experts' two layers, shortcut and two batch norms, and the
    layer they share. -/
structure Params where
  W1 : Fin 5 → Fin 32 → Fin 32 → EReal
  b1 : Fin 5 → Fin 32 → EReal
  W2 : Fin 5 → Fin 32 → Fin 32 → EReal
  b2 : Fin 5 → Fin 32 → EReal
  Ws : Fin 5 → Fin 32 → Fin 32 → EReal
  bs : Fin 5 → Fin 32 → EReal
  g1 : Fin 5 → Fin 32 → EReal
  beta1 : Fin 5 → Fin 32 → EReal
  m1 : Fin 5 → Fin 32 → EReal
  v1 : Fin 5 → Fin 32 → EReal
  g2 : Fin 5 → Fin 32 → EReal
  beta2 : Fin 5 → Fin 32 → EReal
  m2 : Fin 5 → Fin 32 → EReal
  v2 : Fin 5 → Fin 32 → EReal
  Wsh : Fin 32 → Fin 32 → EReal
  bsh : Fin 32 → EReal

variable (p : Params) (x : Fin 32 → EReal)

/-! ## The reference's token -/

/-- Expert `e`'s first layer, rectified. -/
def hidden (e : Fin 5) (k : Fin 32) : EReal := max (∑ d, x d * p.W1 e d k + p.b1 e k) 0

/-- Expert `e`'s first batch norm. -/
def normed1 (e : Fin 5) (k : Fin 32) : EReal :=
  Ideal.div (p.g1 e k * (hidden p x e k - p.m1 e k)) (Ideal.sqrt (p.v1 e k + eps)) + p.beta1 e k

/-- Expert `e`'s second layer and shortcut, rectified. -/
def mixed (e : Fin 5) (k : Fin 32) : EReal :=
  max ((∑ j, normed1 p x e j * p.W2 e j k + p.b2 e k) + (∑ d, x d * p.Ws e d k + p.bs e k)) 0

/-- Expert `e`'s second batch norm. -/
def normed2 (e : Fin 5) (k : Fin 32) : EReal :=
  Ideal.div (p.g2 e k * (mixed p x e k - p.m2 e k)) (Ideal.sqrt (p.v2 e k + eps)) + p.beta2 e k

/-- The shared layer on expert `e`'s output, rectified and scaled: the token's result when its species is `e`. -/
def outcome (e : Fin 5) (j : Fin 32) : EReal :=
  max (∑ k, normed2 p x e k * p.Wsh k j + p.bsh j) 0 * wgt

/-! ## The kernel's widened weights -/

/-- The first batch norm's scale. -/
def scale1 (e : Fin 5) (k : Fin 32) : EReal := p.g1 e k * Ideal.rsqrt (p.v1 e k + eps)

/-- The second batch norm's scale. -/
def scale2 (e : Fin 5) (k : Fin 32) : EReal := p.g2 e k * Ideal.rsqrt (p.v2 e k + eps)

/-- The second layer's bias with the shortcut's and with the first batch norm's offset pushed through the weights. -/
def bias2 (e : Fin 5) (k : Fin 32) : EReal :=
  p.b2 e k + p.bs e k + ∑ j, (p.beta1 e j - p.m1 e j * scale1 p e j) * p.W2 e j k

/-- The expert a widened column belongs to. -/
abbrev grp (q : ℕ) (h : q < 160) : Fin 5 := ⟨q / 32, by omega⟩

/-- The place of a widened column in its group. -/
abbrev unit32 (q : ℕ) : Fin 32 := ⟨q % 32, by omega⟩

/-- The first layer widened: the five experts' weights side by side, then the identity, then minus the identity. -/
def wide1 (d : Fin 32) (q : Fin 224) : EReal :=
  if h : q.val < 160 then p.W1 (grp q.val h) d (unit32 q.val)
  else if q.val < 192 then (if d.val = q.val % 32 then 1 else 0)
  else 0 - (if d.val = q.val % 32 then (1 : EReal) else 0)

/-- The second layer widened: the experts' scaled weights down the diagonal, then their shortcut weights, then minus
    those. -/
def wide2 (q : Fin 224) (r : Fin 160) : EReal :=
  if h : q.val < 160 then
    (if q.val / 32 = r.val / 32 then
      scale1 p (grp r.val r.isLt) (unit32 q.val) * p.W2 (grp r.val r.isLt) (unit32 q.val) (unit32 r.val) else 0)
  else if q.val < 192 then p.Ws (grp r.val r.isLt) (unit32 q.val) (unit32 r.val)
  else 0 - p.Ws (grp r.val r.isLt) (unit32 q.val) (unit32 r.val)

/-- The shared layer's weights, scaled, once per expert. -/
def wide3 (r : Fin 160) (j : Fin 32) : EReal := p.Wsh (unit32 r.val) j * wgt

/-- The four rows the kernel adds or multiplies by, side by side over the experts; everything else is zero. -/
def rows (i : Fin 8) (q : Fin 224) : EReal :=
  if h : q.val < 160 then
    (if i.val = 0 then p.b1 (grp q.val h) (unit32 q.val)
     else if i.val = 1 then bias2 p (grp q.val h) (unit32 q.val)
     else if i.val = 2 then scale2 p (grp q.val h) (unit32 q.val)
     else if i.val = 3 then p.beta2 (grp q.val h) (unit32 q.val) - p.m2 (grp q.val h) (unit32 q.val) * scale2 p (grp q.val h) (unit32 q.val)
     else 0)
  else 0

/-! ## The kernel's token, over any contents of the widened weights -/

section Kernel
variable (A : Fin 32 → Fin 224 → EReal) (B : Fin 224 → Fin 160 → EReal) (C : Fin 160 → Fin 32 → EReal)
  (R : Fin 8 → Fin 224 → EReal)

/-- The widened first layer, rectified. -/
def wideHidden (q : Fin 224) : EReal := max (∑ d, x d * A d q + R 0 q) 0

/-- The widened second layer, rectified, scaled and shifted. -/
def wideMixed (r : Fin 160) : EReal :=
  R 2 (r.castLE (by decide)) * max (∑ q, wideHidden x A R q * B q r + R 1 (r.castLE (by decide))) 0 + R 3 (r.castLE (by decide))

/-- The kernel's result for a token: the groups that are not the token's are masked out before the shared layer. -/
def wideOutcome (own : Fin 160 → Prop) [DecidablePred own] (bias : Fin 32 → EReal) (j : Fin 32) : EReal :=
  max (∑ r, (if own r then wideMixed x A B R r else 0) * C r j + bias j * wgt) 0

end Kernel

/-- What the folding needs of the learned arrays: the second weights, the scales, the means and the first offset are
    real, and each variance plus `eps` is positive. -/
structure Tame : Prop where
  W2 : ∀ e j k, ∃ r : ℝ, p.W2 e j k = r
  g1 : ∀ e k, ∃ r : ℝ, p.g1 e k = r
  beta1 : ∀ e k, ∃ r : ℝ, p.beta1 e k = r
  m1 : ∀ e k, ∃ r : ℝ, p.m1 e k = r
  g2 : ∀ e k, ∃ r : ℝ, p.g2 e k = r
  m2 : ∀ e k, ∃ r : ℝ, p.m2 e k = r
  v1 : ∀ e k, 0 < p.v1 e k + eps
  v2 : ∀ e k, 0 < p.v2 e k + eps

variable {p}

/-- A widened column of an expert's group holds that expert's first layer. -/
theorem wideHidden_own (e : Fin 5) (k : Fin 32) :
    wideHidden x (wide1 p) (rows p) ⟨e.val * 32 + k.val, by omega⟩ = hidden p x e k := by
  have h : e.val * 32 + k.val < 160 := by omega
  have he : grp (e.val * 32 + k.val) h = e := Fin.ext (by simp; omega)
  have hk : unit32 (e.val * 32 + k.val) = k := Fin.ext (by show (e.val * 32 + k.val) % 32 = k.val; omega)
  simp only [wideHidden, wide1, rows, dif_pos h, he, hk, hidden, Fin.val_zero, if_true]

/-- A column of the identity holds the positive part of the token's entry. -/
theorem wideHidden_pos (k : Fin 32) :
    wideHidden x (wide1 p) (rows p) ⟨160 + k.val, by omega⟩ = max (x k) 0 := by
  have h : ¬ 160 + k.val < 160 := by omega
  have h' : 160 + k.val < 192 := by omega
  have hk : (160 + k.val) % 32 = k.val := by omega
  simp only [wideHidden, wide1, rows, dif_neg h, if_pos h', hk, add_zero, Fin.val_inj, mul_ite, mul_one, mul_zero,
    Finset.sum_ite_eq', Finset.mem_univ, if_true]

/-- A column of minus the identity holds the negative part of the token's entry. -/
theorem wideHidden_neg (k : Fin 32) :
    wideHidden x (wide1 p) (rows p) ⟨192 + k.val, by omega⟩ = max (-x k) 0 := by
  have h : ¬ 192 + k.val < 160 := by omega
  have h' : ¬ 192 + k.val < 192 := by omega
  have hk : (192 + k.val) % 32 = k.val := by omega
  have hs : ∀ d : Fin 32, x d * (0 - (if d = k then (1 : EReal) else 0)) = if d = k then -x d else 0 := by
    intro d; split <;> simp
  simp only [wideHidden, wide1, rows, dif_neg h, if_neg h', hk, add_zero, Fin.val_inj, hs,
    Finset.sum_ite_eq', Finset.mem_univ, if_true]

/-- THE SECOND LAYER: before it is rectified, the kernel's widened second layer at an expert's column is the
    reference's: the first batch norm folds into the weights and the bias, and the shortcut comes back from the positive
    and the negative parts. -/
theorem second_layer (t : Tame p) (e : Fin 5) (k : Fin 32) :
    ∑ q, wideHidden x (wide1 p) (rows p) q * wide2 p q ⟨e.val * 32 + k.val, by omega⟩ + bias2 p e k
      = (∑ j, normed1 p x e j * p.W2 e j k + p.b2 e k) + (∑ d, x d * p.Ws e d k + p.bs e k) := by
  have h : e.val * 32 + k.val < 160 := by omega
  have he : grp (e.val * 32 + k.val) h = e := Fin.ext (by simp; omega)
  have hk : unit32 (e.val * 32 + k.val) = k := Fin.ext (by show (e.val * 32 + k.val) % 32 = k.val; omega)
  have own : ∀ (e' : Fin 5) (j : Fin 32), wide2 p ⟨e'.val * 32 + j.val, by omega⟩ ⟨e.val * 32 + k.val, h⟩
      = if e' = e then scale1 p e j * p.W2 e j k else 0 := by
    intro e' j
    have hq : e'.val * 32 + j.val < 160 := by omega
    have hj : unit32 (e'.val * 32 + j.val) = j := Fin.ext (by show (e'.val * 32 + j.val) % 32 = j.val; omega)
    have hd : ((e'.val * 32 + j.val) / 32 = (e.val * 32 + k.val) / 32) ↔ e' = e := by
      rw [← Fin.val_inj]; omega
    simp only [wide2, dif_pos hq, he, hk, hj, hd]
  have pos : ∀ j : Fin 32, wide2 p ⟨160 + j.val, by omega⟩ ⟨e.val * 32 + k.val, h⟩ = p.Ws e j k := by
    intro j
    have h1 : ¬ 160 + j.val < 160 := by omega
    have h2 : 160 + j.val < 192 := by omega
    have hj : unit32 (160 + j.val) = j := Fin.ext (by show (160 + j.val) % 32 = j.val; omega)
    simp only [wide2, dif_neg h1, if_pos h2, he, hk, hj]
  have neg : ∀ j : Fin 32, wide2 p ⟨192 + j.val, by omega⟩ ⟨e.val * 32 + k.val, h⟩ = 0 - p.Ws e j k := by
    intro j
    have h1 : ¬ 192 + j.val < 160 := by omega
    have h2 : ¬ 192 + j.val < 192 := by omega
    have hj : unit32 (192 + j.val) = j := Fin.ext (by show (192 + j.val) % 32 = j.val; omega)
    simp only [wide2, dif_neg h1, if_neg h2, he, hk, hj]
  rw [sum_224]
  simp only [own, pos, neg, wideHidden_own, wideHidden_pos, wideHidden_neg]
  have first : ∑ e' : Fin 5, ∑ j : Fin 32, hidden p x e' j * (if e' = e then scale1 p e j * p.W2 e j k else 0)
      = ∑ j : Fin 32, hidden p x e j * (scale1 p e j * p.W2 e j k) := by
    rw [Finset.sum_eq_single e]
    · simp only [if_true]
    · intro e' _ hne
      simp only [if_neg hne, mul_zero, Finset.sum_const_zero]
    · exact fun hn => absurd (Finset.mem_univ e) hn
  have norm : ∀ j : Fin 32, normed1 p x e j * p.W2 e j k
      = hidden p x e j * (scale1 p e j * p.W2 e j k) + (p.beta1 e j - p.m1 e j * scale1 p e j) * p.W2 e j k := by
    intro j
    obtain ⟨r, hr, hdiv⟩ := exists_rsqrt (t.v1 e j)
    obtain ⟨g, hg⟩ := t.g1 e j
    obtain ⟨m, hm⟩ := t.m1 e j
    obtain ⟨b, hb⟩ := t.beta1 e j
    obtain ⟨w, hw⟩ := t.W2 e j k
    simp only [normed1, scale1, hdiv, hr, hg, hm, hb, hw]
    exact norm_weight g m r b w _
  have short : ∑ d, x d * p.Ws e d k = ∑ d, max (x d) 0 * p.Ws e d k + ∑ d, max (-x d) 0 * (0 - p.Ws e d k) := by
    rw [← Finset.sum_add_distrib]
    exact Finset.sum_congr rfl fun d _ => (relu_split _ _).symm
  rw [first, short, bias2]
  simp only [norm]
  rw [Finset.sum_add_distrib]
  ac_rfl

/-- THE SECOND BATCH NORM: the kernel's widened columns of an expert's group hold that expert's output. -/
theorem wideMixed_own (t : Tame p) (e : Fin 5) (k : Fin 32) :
    wideMixed x (wide1 p) (wide2 p) (rows p) ⟨e.val * 32 + k.val, by omega⟩ = normed2 p x e k := by
  have h : e.val * 32 + k.val < 160 := by omega
  have he : grp (e.val * 32 + k.val) h = e := Fin.ext (by simp; omega)
  have hk : unit32 (e.val * 32 + k.val) = k := Fin.ext (by show (e.val * 32 + k.val) % 32 = k.val; omega)
  have r1 : rows p 1 ⟨e.val * 32 + k.val, by omega⟩ = bias2 p e k := by
    simp only [rows, dif_pos h, he, hk]; simp
  have r2 : rows p 2 ⟨e.val * 32 + k.val, by omega⟩ = scale2 p e k := by
    simp only [rows, dif_pos h, he, hk]; simp
  have r3 : rows p 3 ⟨e.val * 32 + k.val, by omega⟩ = p.beta2 e k - p.m2 e k * scale2 p e k := by
    simp only [rows, dif_pos h, he, hk]; simp
  simp only [wideMixed, Fin.castLE_mk, r1, r2, r3, second_layer x t e k]
  obtain ⟨r, hr, hdiv⟩ := exists_rsqrt (t.v2 e k)
  obtain ⟨g, hg⟩ := t.g2 e k
  obtain ⟨m, hm⟩ := t.m2 e k
  simp only [normed2, scale2, hdiv, hr, hg, hm, mixed]
  exact (norm_affine g m r _ _).symm

/-- ONE TOKEN: the kernel's folded, widened, masked computation gives what the reference gives the token's own expert. -/
theorem wideOutcome_eq (t : Tame p) (own : Fin 160 → Prop) [DecidablePred own] (s : Fin 5)
    (hs : ∀ r : Fin 160, own r ↔ r.val / 32 = s.val) (j : Fin 32) :
    wideOutcome x (wide1 p) (wide2 p) (wide3 p) (rows p) own p.bsh j = outcome p x s j := by
  obtain ⟨c, hc, hw⟩ := wgt_real
  have term : ∀ (e : Fin 5) (k : Fin 32), (if own ⟨e.val * 32 + k.val, by omega⟩ then
        wideMixed x (wide1 p) (wide2 p) (rows p) ⟨e.val * 32 + k.val, by omega⟩ else 0) * wide3 p ⟨e.val * 32 + k.val, by omega⟩ j
      = if e = s then normed2 p x e k * (p.Wsh k j * wgt) else 0 := by
    intro e k
    have hk : unit32 (e.val * 32 + k.val) = k := Fin.ext (by show (e.val * 32 + k.val) % 32 = k.val; omega)
    have ho : own ⟨e.val * 32 + k.val, by omega⟩ ↔ e = s := by
      rw [hs, ← Fin.val_inj]
      show (e.val * 32 + k.val) / 32 = s.val ↔ _
      omega
    simp only [wide3, hk, wideMixed_own x t, ho]
    split <;> simp
  have total : ∑ e : Fin 5, ∑ k : Fin 32, (if e = s then normed2 p x e k * (p.Wsh k j * wgt) else 0)
      = ∑ k : Fin 32, normed2 p x s k * (p.Wsh k j * wgt) := by
    rw [Finset.sum_eq_single s]
    · simp only [if_true]
    · intro e' _ hne
      simp only [if_neg hne, Finset.sum_const_zero]
    · exact fun hn => absurd (Finset.mem_univ s) hn
  rw [wideOutcome, sum_160]
  simp only [term]
  rw [total, outcome, hw]
  exact relu_layer_scale _ _ _ hc

end Cert.Branch

end
-- ==== Proof.Arrays.lean ====
/-
  The learned arrays of the programs, as the curried families that the mathematics is stated over.
-/
module

public import proofs.«01_k».proof.Proof.Token
public import Idealize.ShloMosaic.Lib.Pointwise

@[expose] public section

noncomputable section

namespace Cert.Branch

open Idealize.ShloMosaic

/-- The learned arrays, by their coordinates. -/
abbrev paramsOf (x2 : FVec Ideal ⟨3, ![5, 32, 32]⟩ .f32) (x3 : FVec Ideal ⟨2, ![5, 32]⟩ .f32) (x4 : FVec Ideal ⟨3, ![5, 32, 32]⟩ .f32)
    (x5 : FVec Ideal ⟨2, ![5, 32]⟩ .f32) (x6 : FVec Ideal ⟨3, ![5, 32, 32]⟩ .f32)
    (x7 x8 x9 x10 x11 x12 x13 x14 x15 : FVec Ideal ⟨2, ![5, 32]⟩ .f32) (x16 : FVec Ideal ⟨2, ![32, 32]⟩ .f32)
    (x17 : FVec Ideal ⟨1, ![32]⟩ .f32) : Params where
  W1 e i j := x2 (ix3 e i j)
  b1 e i := x3 (ix2 e i)
  W2 e i j := x4 (ix3 e i j)
  b2 e i := x5 (ix2 e i)
  Ws e i j := x6 (ix3 e i j)
  bs e i := x7 (ix2 e i)
  g1 e i := x8 (ix2 e i)
  beta1 e i := x9 (ix2 e i)
  m1 e i := x10 (ix2 e i)
  v1 e i := x11 (ix2 e i)
  g2 e i := x12 (ix2 e i)
  beta2 e i := x13 (ix2 e i)
  m2 e i := x14 (ix2 e i)
  v2 e i := x15 (ix2 e i)
  Wsh i j := x16 (ix2 i j)
  bsh j := x17 (ix1 j)

end Cert.Branch

end
-- ==== Proof.RefValue.lean ====
/-
  What the reference computes, read at an index.
-/
module

public import proofs.«01_k».proof.Proof.Arrays
public import proofs.«01_k».proof.Proof.Gen.ReferenceIdeal.Read
public import Idealize.ShloMosaic.Lib.Pointwise

@[expose] public section

set_option maxRecDepth 16384

noncomputable section

namespace Cert.Branch

open Cert.ReferenceIdeal Cert.ReferenceIdeal.Gen Cert.ReferenceIdeal.Read Idealize.ShloMosaic

variable (x0 : FVec Ideal S16384x32 .f32) (x1 : IVec S16384 32) (x2 : FVec Ideal S5x32x32 .f32)
  (x3 : FVec Ideal S5x32 .f32) (x4 : FVec Ideal S5x32x32 .f32)
  (x5 : FVec Ideal S5x32 .f32) (x6 : FVec Ideal S5x32x32 .f32)
  (x7 x8 x9 x10 x11 x12 x13 x14 x15 : FVec Ideal S5x32 .f32) (x16 : FVec Ideal S32x32 .f32) (x17 : FVec Ideal S32 .f32)

/-- The reference's first layer, at an index. -/
theorem hidden_apply (e : Fin 5) (b : Fin 16384) (k : Fin 32) :
    val_main_v10 (F := Ideal) x0 x2 x3 (ix3 e b k) = hidden (paramsOf x2 x3 x4 x5 x6 x7 x8 x9 x10 x11 x12 x13 x14 x15 x16 x17)
        (fun d => x0 (ix2 b d)) e k := by
  unfold hidden
  simp only [mul_comm (x0 _)]
  pointwise [val_main_v5, val_main_v6, val_main_v7, val_main_v8, val_main_v9, val_main_v10, val_main_call0_v0, val_main_call0_cst]

/-- The reference's first batch norm, at an index. -/
theorem normed1_apply (e : Fin 5) (b : Fin 16384) (k : Fin 32) :
    val_main_v25 (F := Ideal) x0 x2 x3 x8 x9 x10 x11 (ix3 e b k) = normed1 (paramsOf x2 x3 x4 x5 x6 x7 x8 x9 x10 x11 x12 x13 x14 x15 x16 x17)
        (fun d => x0 (ix2 b d)) e k := by
  unfold normed1
  pointwise [val_main_v11, val_main_v12, val_main_v13, val_main_v14, val_main_v15, val_main_v16, val_main_v17, val_main_v18, val_main_v19, val_main_v20, val_main_v21, val_main_v22, val_main_v23, val_main_v24, val_main_v25, val_main_cst]
  rw [hidden_apply x0 x2 x3 x4 x5 x6 x7 x8 x9 x10 x11 x12 x13 x14 x15 x16 x17]
  rfl

/-- The reference's second layer, at an index. -/
theorem mixed_apply (e : Fin 5) (b : Fin 16384) (k : Fin 32) :
    val_main_v31 (F := Ideal) x0 x2 x3 x4 x5 x6 x7 x8 x9 x10 x11 (ix3 e b k)
      = mixed (paramsOf x2 x3 x4 x5 x6 x7 x8 x9 x10 x11 x12 x13 x14 x15 x16 x17)
        (fun d => x0 (ix2 b d)) e k := by
  unfold mixed
  simp only [mul_comm (x0 _)]
  pointwise [val_main_v0, val_main_v1, val_main_v2, val_main_v3, val_main_v4, val_main_v26, val_main_v27, val_main_v28, val_main_v29, val_main_v30, val_main_v31, val_main_call1_v0, val_main_call1_cst]
  simp only [normed1_apply x0 x2 x3 x4 x5 x6 x7 x8 x9 x10 x11 x12 x13 x14 x15 x16 x17]

/-- The reference's second batch norm, at an index. -/
theorem normed2_apply (e : Fin 5) (b : Fin 16384) (k : Fin 32) :
    val_main_v46 (F := Ideal) x0 x2 x3 x4 x5 x6 x7 x8 x9 x10 x11 x12 x13 x14 x15 (ix3 e b k)
      = normed2 (paramsOf x2 x3 x4 x5 x6 x7 x8 x9 x10 x11 x12 x13 x14 x15 x16 x17)
        (fun d => x0 (ix2 b d)) e k := by
  unfold normed2
  pointwise [val_main_v32, val_main_v33, val_main_v34, val_main_v35, val_main_v36, val_main_v37, val_main_v38, val_main_v39, val_main_v40, val_main_v41, val_main_v42, val_main_v43, val_main_v44, val_main_v45, val_main_v46, val_main_cst_0]
  rw [mixed_apply x0 x2 x3 x4 x5 x6 x7 x8 x9 x10 x11 x12 x13 x14 x15 x16 x17]
  rfl

/-- The reference's selection reads, for token `b`, the row that its two start indices name. -/
theorem pick_apply (X : FVec Ideal S5x16384x32 .f32) (idx : IVec S16384x2 32) (b : Fin 16384) (j : Fin 32) (e : Fin 5)
    (he : (idx (ix2 b 0)).toInt = e.val) (hb : (idx (ix2 b 1)).toInt = b.val) :
    Host.gather gather_S5x16384x32_S16384x2_S16384x32_1_01_n_n_01_1_1132 X idx (ix2 b j) = X (ix3 e b j) := by
  unfold Host.gather
  congr 1
  funext a
  refine Fin.ext ?_
  generalize hD : gather_S5x16384x32_S16384x2_S16384x32_1_01_n_n_01_1_1132 = D
  show D.start (ix2 b j) idx a + D.batchCoord (ix2 b j) a + D.offCoord (ix2 b j) a = _
  subst hD
  rw [GatherDims.batchCoord_eq_zero _ _ _ (fun h => by simp [gather_S5x16384x32_S16384x2_S16384x32_1_01_n_n_01_1_1132] at h)]
  have cases3 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases cases3 with rfl | rfl | rfl
  · rw [GatherDims.offCoord_eq_zero _ _ _ (fun h => ((GatherDims.mem_sKept _ _).mp h).1 (show (0 : Fin 3) ∈ gather_S5x16384x32_S16384x2_S16384x32_1_01_n_n_01_1_1132.collapsedSliceDims by decide))]
    unfold GatherDims.start
    rw [dif_pos (show (0 : Fin 3) ∈ gather_S5x16384x32_S16384x2_S16384x32_1_01_n_n_01_1_1132.startIndexMap by decide)]
    have hsi : ∀ h, gather_S5x16384x32_S16384x2_S16384x32_1_01_n_n_01_1_1132.siIdx (ix2 b j) ⟨List.idxOf (0 : Fin 3) gather_S5x16384x32_S16384x2_S16384x32_1_01_n_n_01_1_1132.startIndexMap, h⟩ = ix2 b 0 := by
      intro h
      funext c
      refine Fin.ext ?_
      match c with
      | ⟨0, _⟩ => rfl
      | ⟨1, _⟩ => rfl
    erw [hsi, he]
    show min (e.val : ℤ).toNat 4 + 0 + 0 = e.val
    have := e.isLt
    omega
  · rw [GatherDims.offCoord_eq_zero _ _ _ (fun h => ((GatherDims.mem_sKept _ _).mp h).1 (show (1 : Fin 3) ∈ gather_S5x16384x32_S16384x2_S16384x32_1_01_n_n_01_1_1132.collapsedSliceDims by decide))]
    unfold GatherDims.start
    rw [dif_pos (show (1 : Fin 3) ∈ gather_S5x16384x32_S16384x2_S16384x32_1_01_n_n_01_1_1132.startIndexMap by decide)]
    have hsi : ∀ h, gather_S5x16384x32_S16384x2_S16384x32_1_01_n_n_01_1_1132.siIdx (ix2 b j) ⟨List.idxOf (1 : Fin 3) gather_S5x16384x32_S16384x2_S16384x32_1_01_n_n_01_1_1132.startIndexMap, h⟩ = ix2 b 1 := by
      intro h
      funext c
      refine Fin.ext ?_
      match c with
      | ⟨0, _⟩ => rfl
      | ⟨1, _⟩ => rfl
    erw [hsi, hb]
    show min (b.val : ℤ).toNat 16383 + 0 + 0 = b.val
    have := b.isLt
    omega
  · unfold GatherDims.start
    rw [dif_neg (show (2 : Fin 3) ∉ gather_S5x16384x32_S16384x2_S16384x32_1_01_n_n_01_1_1132.startIndexMap by decide)]
    show 0 + 0 + gather_S5x16384x32_S16384x2_S16384x32_1_01_n_n_01_1_1132.offCoord (ix2 b j) (2 : Fin 3) = j.val
    unfold GatherDims.offCoord
    rw [dif_pos (show (2 : Fin 3) ∈ gather_S5x16384x32_S16384x2_S16384x32_1_01_n_n_01_1_1132.sKept by decide)]
    simp only [Nat.zero_add]
    rfl

/-- A number below half the word range, as a 32-bit word read signed, is itself. -/
theorem toInt_small (n : ℕ) (h : n < 16384) : (BitVec.ofNat 32 n).toInt = n := by
  rw [BitVec.toInt_eq_toNat_cond, BitVec.toNat_ofNat, Nat.mod_eq_of_lt (by omega)]
  rw [if_pos (by omega)]

/-- The reference's wrap of a negative index leaves a small number alone. -/
theorem wrap_small (n : ℕ) (h : n < 16384) (y : BitVec 32) :
    Scalar.select (IntOp.cmpi .slt (BitVec.ofNat 32 n) 0#32) y (BitVec.ofNat 32 n) = BitVec.ofNat 32 n := by
  have hs : (BitVec.ofNat 32 n).slt 0#32 = false := by
    rw [BitVec.slt, toInt_small n h]
    simp
  simp [Scalar.select, IntOp.cmpi, hs]

/-- The reference's start indices: the species, and the token's own number. -/
theorem indices_apply (b : Fin 16384) (e : Fin 5) (he : x1 (ix1 b) = BitVec.ofNat 32 e.val) :
    val_main_v60 (F := Ideal) x1 (ix2 b 0) = BitVec.ofNat 32 e.val
      ∧ val_main_v60 (F := Ideal) x1 (ix2 b 1) = BitVec.ofNat 32 b.val := by
  constructor
  · pointwise [val_main_v60, val_main_v58, val_main_v52, val_main_v51, val_main_v50, val_main_v49, val_main_v48, val_main_c, val_main_c_1]
    rw [he]
    exact wrap_small _ (by omega) _
  · pointwise [val_main_v60, val_main_v59, val_main_v57, val_main_v56, val_main_v55, val_main_v54, val_main_v53, val_main_v47, val_main_c_2, val_main_c_3]
    exact wrap_small _ (by omega) _

/-- The reference's result, at an index, for a token whose species is one of the five. -/
theorem outcome_apply (b : Fin 16384) (j : Fin 32) (e : Fin 5) (he : x1 (ix1 b) = BitVec.ofNat 32 e.val) :
    val_main_v68 (F := Ideal) x0 x1 x2 x3 x4 x5 x6 x7 x8 x9 x10 x11 x12 x13 x14 x15 x16 x17 (ix2 b j)
      = outcome (paramsOf x2 x3 x4 x5 x6 x7 x8 x9 x10 x11 x12 x13 x14 x15 x16 x17)
        (fun d => x0 (ix2 b d)) e j := by
  have hi := indices_apply x1 b e he
  have pick : ∀ k, val_main_v61 (F := Ideal) x0 x1 x2 x3 x4 x5 x6 x7 x8 x9 x10 x11 x12 x13 x14 x15 (ix2 b k)
      = normed2 (paramsOf x2 x3 x4 x5 x6 x7 x8 x9 x10 x11 x12 x13 x14 x15 x16 x17)
        (fun d => x0 (ix2 b d)) e k := fun k => by
    unfold val_main_v61
    rw [pick_apply _ _ b k e (by rw [hi.1]; exact toInt_small _ (by omega)) (by rw [hi.2]; exact toInt_small _ b.isLt)]
    exact normed2_apply x0 x2 x3 x4 x5 x6 x7 x8 x9 x10 x11 x12 x13 x14 x15 x16 x17 e b k
  unfold outcome
  pointwise [val_main_v68, val_main_v67, val_main_v66, val_main_v65, val_main_v64, val_main_v63, val_main_v62, val_main_cst_4, val_main_call2_v0, val_main_call2_cst]
  simp only [pick]
  rfl

end Cert.Branch

end
-- ==== Proof.Body.lean ====
/-
  What one grid point's body computes, read at an index: the kernel's last stored vector as a function of the token
  block, the species block and whatever the four scratch buffers hold.
-/
module

public import proofs.«01_k».proof.Proof.Token
public import proofs.«01_k».proof.Proof.Gen.KernelIdeal.Skeleton
public import Idealize.ShloMosaic.Lib.Pointwise
public import Idealize.ShloMosaic.Lib.Pipeline.Value
public import Idealize.ShloMosaic.Lib.Pipeline.FrameBody

@[expose] public section

set_option maxRecDepth 16384

noncomputable section

namespace Cert.Branch

open Cert.KernelIdeal Cert.KernelIdeal.Gen Idealize.ShloMosaic

/-- Rows `128 k` to `128 k + 127` of an array of 4096 rows. -/
def rowsOf {α : Type} (X : S4096x160.Idx → α) (k : Fin 32) : S128x160.Idx → α := fun y =>
  X (ix2 ⟨k.val * 128 + (y 0).val, by have : (y 0).val < 128 := (y 0).isLt; omega⟩ ⟨(y 1).val, (y 1).isLt⟩)

/-- Thirty-two pieces of 128 rows, each a run of rows of one array, concatenate to the array. -/
theorem concatenate_rows {α : Type} (xs : List ((s : Shape) × (s.Idx → α)))
    (h : Shape.Concatenates (xs.map (·.1)) S4096x160 0) (X : S4096x160.Idx → α) (hlen : xs.length = 32)
    (each : ∀ (k : ℕ) (hk : k < xs.length) (hk' : k < 32), xs[k] = ⟨S128x160, rowsOf X ⟨k, hk'⟩⟩) :
    concatenate S4096x160 0 xs h = X := by
  have e : xs = List.ofFn fun n : Fin 32 => (⟨S128x160, rowsOf X n⟩ : (s : Shape) × (s.Idx → α)) :=
    List.ext_getElem (by rw [hlen, List.length_ofFn]) fun k hk hk' =>
      (each k hk (hlen ▸ hk)).trans (List.getElem_ofFn (i := k) hk').symm
  subst e
  funext j
  have h0 : (j 0).val < 4096 := (j 0).isLt
  refine (concatenate_ofFn_apply (s₁ := S128x160) (N := 32) 0 _ h rfl 128 rfl j ⟨(j 0).val / 128, by omega⟩ rfl
    (ix2 ⟨(j 0).val % 128, by omega⟩ ⟨(j 1).val, (j 1).isLt⟩) rfl ?_).trans ?_
  · intro b hb
    match b with
    | ⟨0, _⟩ => exact absurd rfl hb
    | ⟨1, _⟩ => rfl
  · show X (ix2 ⟨(j 0).val / 128 * 128 + (j 0).val % 128, _⟩ ⟨(j 1).val, _⟩) = X j
    congr 1
    conv_rhs => rw [eq_ix2 j]
    congr 1
    exact Fin.ext (by show (j 0).val / 128 * 128 + (j 0).val % 128 = (j 0).val; omega)

/-- The group a widened column belongs to, as the kernel computes it on 32-bit words. -/
theorem group_apply (s : Fin 128) (r : Fin 160) :
    k0_pay84 (iota .tc S128x160 32 [1] iota_S128x160_d1_w32) 32#32 k0_pay82 k0_pay83 0#32 (ix2 s r)
      = BitVec.ofNat 32 (r.val / 32) := by
  pointwise [k0_pay84, k0_pay82, k0_pay83]
  revert r
  decide +kernel

/-- Each widened column's number, as the kernel's 32-bit words. -/
abbrev lanes : IVec S128x160 32 := iota .tc S128x160 32 [1] iota_S128x160_d1_w32

/-- Each widened column's group, as the kernel's 32-bit words. -/
abbrev groups : IVec S128x160 32 := k0_pay84 lanes 32#32 k0_pay82 k0_pay83 0#32

/-- The widened second layer with the columns outside each token's own group set to zero. -/
def masked (H : FVec Ideal S4096x160 .f32) (S : IVec S128x32 32) : FVec Ideal S4096x160 .f32 := fun i =>
  if S (ix2 ⟨(i 0).val % 128, by omega⟩ ⟨(i 0).val / 128, by have : (i 0).val < 4096 := (i 0).isLt; omega⟩)
      = groups (ix2 ⟨(i 0).val % 128, by omega⟩ ⟨(i 1).val, (i 1).isLt⟩) then H i else 0

/-- A choice made by an equality test of two words. -/
theorem select_eq (a b : BitVec 32) (u v : Ideal .f32) :
    Scalar.select (IntOp.cmpi .eq a b) u v = if a = b then u else v := by
  by_cases h : a = b
  · subst h
    simp [Scalar.select, IntOp.cmpi]
  · have hb : (a == b) = false := by simpa using h
    simp [Scalar.select, IntOp.cmpi, h, hb]

/-- A run of the masked rows, at an index. -/
theorem masked_rows (H : FVec Ideal S4096x160 .f32) (S : IVec S128x32 32) (k : Fin 32) (s : Fin 128) (r : Fin 160) :
    rowsOf (masked H S) k (ix2 s r)
      = if S (ix2 s k) = groups (ix2 s r) then H (ix2 ⟨k.val * 128 + s.val, by omega⟩ r) else 0 := by
  have h1 : (k.val * 128 + s.val) % 128 = s.val := by omega
  have h2 : (k.val * 128 + s.val) / 128 = k.val := by omega
  show (if S (ix2 ⟨(k.val * 128 + s.val) % 128, _⟩ ⟨(k.val * 128 + s.val) / 128, _⟩)
    = groups (ix2 ⟨(k.val * 128 + s.val) % 128, _⟩ r) then _ else _) = _
  simp only [h1, h2]
  rfl

/-- The thirty-two masked pieces of 128 rows, one below another, are the masked array. -/
theorem chunks_eq (H : FVec Ideal S4096x160 .f32) (S : IVec S128x32 32) :
    concatenate S4096x160 0 (α := Ideal .f32)
    [⟨S128x160, k0_pay85 H S lanes 32#32 k0_pay82 k0_pay83 0#32⟩, ⟨S128x160, k0_pay86 H S lanes 32#32 k0_pay82 k0_pay83 0#32⟩,
     ⟨S128x160, k0_pay87 H S lanes 32#32 k0_pay82 k0_pay83 0#32⟩, ⟨S128x160, k0_pay88 H S lanes 32#32 k0_pay82 k0_pay83 0#32⟩,
     ⟨S128x160, k0_pay89 H S lanes 32#32 k0_pay82 k0_pay83 0#32⟩, ⟨S128x160, k0_pay91 H groups (k0_pay90 S)⟩,
     ⟨S128x160, k0_pay92 H S groups⟩, ⟨S128x160, k0_pay93 H S groups⟩,
     ⟨S128x160, k0_pay94 H S groups⟩, ⟨S128x160, k0_pay95 H S groups⟩,
     ⟨S128x160, k0_pay96 H S groups⟩, ⟨S128x160, k0_pay97 H S groups⟩,
     ⟨S128x160, k0_pay98 H S groups⟩, ⟨S128x160, k0_pay102 (k0_pay99 S groups) (k0_pay100 H) k0_pay101⟩,
     ⟨S128x160, k0_pay103 H S groups⟩, ⟨S128x160, k0_pay104 H S groups⟩,
     ⟨S128x160, k0_pay105 H S groups⟩, ⟨S128x160, k0_pay106 H S groups⟩,
     ⟨S128x160, k0_pay107 H S groups⟩, ⟨S128x160, k0_pay108 H S groups⟩,
     ⟨S128x160, k0_pay109 H S groups⟩, ⟨S128x160, k0_pay110 H S groups⟩,
     ⟨S128x160, k0_pay112 H (k0_pay111 S groups)⟩, ⟨S128x160, k0_pay113 H S groups⟩,
     ⟨S128x160, k0_pay114 H S groups⟩, ⟨S128x160, k0_pay115 H S groups⟩,
     ⟨S128x160, k0_pay116 H S groups⟩, ⟨S128x160, k0_pay117 H S groups⟩,
     ⟨S128x160, k0_pay118 H S groups⟩, ⟨S128x160, k0_pay119 H S groups⟩,
     ⟨S128x160, k0_pay120 H S groups⟩, ⟨S128x160, k0_pay1 H S groups⟩]
      concatenates_S128x160_S128x160_S128x160_S128x160_S128x160_S128x160_S128x160_S128x160_S128x160_S128x160_S128x160_S128x160_S128x160_S128x160_S128x160_S128x160_S128x160_S128x160_S128x160_S128x160_S128x160_S128x160_S128x160_S128x160_S128x160_S128x160_S128x160_S128x160_S128x160_S128x160_S128x160_S128x160_S4096x160_d0
      = masked H S := by
  refine concatenate_rows _ _ _ rfl fun k hk hk' => ?_
  interval_cases k
  all_goals
    refine congrArg (fun f => (⟨S128x160, f⟩ : (s : Shape) × (s.Idx → Ideal .f32))) (funext fun y => ?_)
    idx_vars y
    rw [masked_rows]
    clear hk
    generalize hg : groups = G
    pointwise [groups, k0_pay1, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120]
    subst hg
    exact select_eq _ _ _ _

/-- What one grid point stores into its output block, of the species block, the token block, the four scratch buffers
    and the shared layer's bias. -/
def stored (sp : IVec S32x128 32) (x : FVec Ideal S4096x32 .f32) (A : FVec Ideal S32x224 .f32)
    (B : FVec Ideal S224x160 .f32) (C : FVec Ideal S160x32 .f32) (R : FVec Ideal S8x224 .f32)
    (bias : FVec Ideal S32 .f32) : FVec Ideal S4096x32 .f32 :=
  k0_pay2 (masked
    (k0_pay80 x A (fun y => R (ix2 0 (y 1))) B (fun y => R (ix2 1 ((y 1).castLE (by decide))))
      (fun y => R (ix2 2 ((y 1).castLE (by decide)))) (fun y => R (ix2 3 ((y 1).castLE (by decide)))))
    (k0_pay81 (F := Ideal) sp)) C bias

/-- The widened hidden features, at an index. -/
theorem wide_apply (x : FVec Ideal S4096x32 .f32) (A : FVec Ideal S32x224 .f32) (r0 : FVec Ideal S1x224 .f32)
    (B : FVec Ideal S224x160 .f32) (r1 r2 r3 : FVec Ideal S1x160 .f32) (b : Fin 4096) (r : Fin 160) :
    k0_pay80 x A r0 B r1 r2 r3 (ix2 b r)
      = r2 (ix2 0 r) * max (∑ q : Fin 224, max (∑ d : Fin 32, x (ix2 b d) * A (ix2 d q) + r0 (ix2 0 q)) 0 * B (ix2 q r)
          + r1 (ix2 0 r)) 0 + r3 (ix2 0 r) := by
  pointwise [k0_pay80]

/-- One stored value, at an index. -/
theorem stored_apply (sp : IVec S32x128 32) (x : FVec Ideal S4096x32 .f32) (A : FVec Ideal S32x224 .f32)
    (B : FVec Ideal S224x160 .f32) (C : FVec Ideal S160x32 .f32) (R : FVec Ideal S8x224 .f32)
    (bias : FVec Ideal S32 .f32) (b : Fin 4096) (j : Fin 32) :
    stored sp x A B C R bias (ix2 b j)
      = wideOutcome (fun d => x (ix2 b d)) (fun d q => A (ix2 d q)) (fun q r => B (ix2 q r)) (fun r j => C (ix2 r j))
          (fun i q => R (ix2 i q))
          (fun r => sp (ix2 ⟨b.val / 128, by omega⟩ ⟨b.val % 128, by omega⟩) = BitVec.ofNat 32 (r.val / 32))
          (fun j => bias (ix1 j)) j := by
  unfold stored
  pointwise [k0_pay2, masked, k0_pay81, groups, group_apply, wide_apply]
  rfl

end Cert.Branch

end
-- ==== Proof.Point.lean ====
/-
  What one grid point leaves: the output block it stores, and the scratch buffers, as functions of what it reads.
-/
module

public import proofs.«01_k».proof.Proof.Body
public import proofs.«01_k».proof.Proof.Gen.KernelIdeal.Frame
public import Idealize.ShloMosaic.Lib.Pipeline.ValueKit.Basic
public import Idealize.ShloMosaic.Lib.Tactic.RunNames

@[expose] public section

set_option maxRecDepth 16384

noncomputable section

namespace Cert.Branch

open Cert.KernelIdeal Cert.KernelIdeal.Gen Idealize.ShloMosaic Idealize.ShloMosaic.TcCoe Idealize.SL.Sem

/-- A load through a whole buffer that holds `X` reads `X` through the load's rectangle. -/
theorem load_eq {sp : Space} {s : Shape} {e : EltTy} {M : Memref sig .tc sp s e} (h : M.IsWhole)
    (X : s.Idx → Elt Ideal e) (R : Rect s) :
    View.readAt (Elt Ideal) M.view R.toLoadRect (h.unread X) = View.ld X R := by
  rw [View.readAt_eq_ld, h.read_unread]

/-- A load through a buffer that a list of stores fills reads what the stores leave, through the load's rectangle. -/
theorem cov_eq {sig : RefSig} {κ : Kind} {sp : Space} {s : Shape} {e : EltTy} (v : View sig κ sp s e)
    (L : List (View.Piece (Elt Ideal) s e)) (R : Rect s) :
    v.readCov L R.toLoadRect = View.ld (View.canon L) R :=
  View.readCov_eq_canon' v L R.toLoadRect

/-- A load of row `k` of the small scratch buffer, its first `n` columns. -/
theorem row_eq (k n : ℕ) (hk : k < 8) (hn : n ≤ 224)
    (inb : ∀ a : Fin S8x224.rank, (![k, 0] : Fin 2 → ℕ) a + (⟨2, ![1, n]⟩ : Shape).size a ≤ S8x224.size a)
    (X : S8x224.Idx → Elt Ideal .f32) :
    View.ld X (Rect.unit (s := S8x224) ![k, 0] (⟨2, ![1, n]⟩ : Shape).size inb)
      = fun y => X (ix2 ⟨k, hk⟩ (Fin.castLE hn (y (1 : Fin 2)))) := by
  funext y
  refine congrArg X (funext fun a => Fin.ext ?_)
  have h0 : (y (0 : Fin 2)).val < 1 := (y (0 : Fin 2)).isLt
  match a with
  | ⟨0, _⟩ => show k + 1 * (y (0 : Fin 2)).val = k; omega
  | ⟨1, _⟩ => show 0 + 1 * (y (1 : Fin 2)).val = (y (1 : Fin 2)).val; omega

variable (c : Dev nD) (i : grid0.Coords)
  (arg1 : Memref sig .tc .vmem S32x128 .i32) (harg1 : arg1.IsWhole) (arg2 : Memref sig .tc .vmem S4096x32 .f32)
  (harg2 : arg2.IsWhole) (arg3 : Memref sig .tc .vmem S5x32x32 .f32) (harg3 : arg3.IsWhole)
  (arg4 : Memref sig .tc .vmem S5x32 .f32) (harg4 : arg4.IsWhole) (arg5 : Memref sig .tc .vmem S5x32x32 .f32)
  (harg5 : arg5.IsWhole) (arg6 : Memref sig .tc .vmem S5x32 .f32) (harg6 : arg6.IsWhole)
  (arg7 : Memref sig .tc .vmem S5x32x32 .f32) (harg7 : arg7.IsWhole) (arg8 : Memref sig .tc .vmem S5x32 .f32)
  (harg8 : arg8.IsWhole) (arg9 : Memref sig .tc .vmem S5x32 .f32) (harg9 : arg9.IsWhole)
  (arg10 : Memref sig .tc .vmem S5x32 .f32) (harg10 : arg10.IsWhole) (arg11 : Memref sig .tc .vmem S5x32 .f32)
  (harg11 : arg11.IsWhole) (arg12 : Memref sig .tc .vmem S5x32 .f32) (harg12 : arg12.IsWhole)
  (arg13 : Memref sig .tc .vmem S5x32 .f32) (harg13 : arg13.IsWhole) (arg14 : Memref sig .tc .vmem S5x32 .f32)
  (harg14 : arg14.IsWhole) (arg15 : Memref sig .tc .vmem S5x32 .f32) (harg15 : arg15.IsWhole)
  (arg16 : Memref sig .tc .vmem S5x32 .f32) (harg16 : arg16.IsWhole) (arg17 : Memref sig .tc .vmem S32x32 .f32)
  (harg17 : arg17.IsWhole) (arg18 : Memref sig .tc .vmem S32 .f32) (harg18 : arg18.IsWhole)
  (arg19 : Memref sig .tc .vmem S4096x32 .f32) (harg19 : arg19.IsWhole) (arg20 : Memref sig .tc .vmem S32x224 .f32)
  (harg20 : arg20.IsWhole) (arg21 : Memref sig .tc .vmem S224x160 .f32) (harg21 : arg21.IsWhole)
  (arg22 : Memref sig .tc .vmem S160x32 .f32) (harg22 : arg22.IsWhole) (arg23 : Memref sig .tc .vmem S8x224 .f32)
  (harg23 : arg23.IsWhole)
  (x0 : Vec Ideal S32x128 .i32) (x1 : Vec Ideal S4096x32 .f32) (x2 : Vec Ideal S5x32x32 .f32)
  (x3 : Vec Ideal S5x32 .f32) (x4 : Vec Ideal S5x32x32 .f32) (x5 : Vec Ideal S5x32 .f32)
  (x6 : Vec Ideal S5x32x32 .f32) (x7 : Vec Ideal S5x32 .f32) (x8 : Vec Ideal S5x32 .f32) (x9 : Vec Ideal S5x32 .f32)
  (x10 : Vec Ideal S5x32 .f32) (x11 : Vec Ideal S5x32 .f32) (x12 : Vec Ideal S5x32 .f32) (x13 : Vec Ideal S5x32 .f32)
  (x14 : Vec Ideal S5x32 .f32) (x15 : Vec Ideal S5x32 .f32) (x16 : Vec Ideal S32x32 .f32) (x17 : Vec Ideal S32 .f32)
  (xs0 : Vec Ideal S32x224 .f32) (xs1 : Vec Ideal S224x160 .f32) (xs2 : Vec Ideal S160x32 .f32)
  (xs3 : Vec Ideal S8x224 .f32)

/-- A grid point after the first stores the body's result over what the scratch buffers hold. -/
theorem later_out (hc0 : ¬cond0_0 i) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0
        x0 x1 x2 x3 x4 x5 x6 x7 x8 x9 x10 x11 x12 x13 x14 x15 x16 x17 xs0 xs1 xs2 xs3
      = stored x0 x1 xs0 xs1 xs2 xs3 x17 := by
  unfold out0_B_18
  rw [View.read_writes_junk_eq_canon]
  unfold kernelRun0_B
  sl_unfold_words
  refine (View.canon_cons_unit_lit _ _ _ (by decide)).trans ?_
  rw [load_eq harg1, load_eq harg2, load_eq harg18, load_eq harg20,
    load_eq harg21, load_eq harg22, load_eq harg23, load_eq harg23, load_eq harg23, load_eq harg23]
  rw [View.ld_unit_lit _ x0 (by decide), View.ld_unit_lit _ x1 (by decide), View.ld_unit_lit _ x17 (by decide),
    View.ld_unit_lit _ xs0 (by decide), View.ld_unit_lit _ xs1 (by decide), View.ld_unit_lit _ xs2 (by decide)]
  rw [row_eq 0 224 (by decide) (by decide), row_eq 1 160 (by decide) (by decide), row_eq 2 160 (by decide) (by decide),
    row_eq 3 160 (by decide) (by decide)]
  erw [chunks_eq]
  rfl

/-- The first grid point's pieces for the first layer's weights make up what it leaves in that scratch buffer. -/
theorem first_scratch0 (hc0 : cond0_0 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0
        x0 x1 x2 x3 x4 x5 x6 x7 x8 x9 x10 x11 x12 x13 x14 x15 x16 x17
      = View.canon (kernelRun0_A.sl.HS0_7 c arg3 harg3 x2) := by
  unfold sout0_A_0
  rw [View.read_writes_junk_eq_canon]
  rfl

/-- The first grid point's pieces for the second layer's weights make up what it leaves in that scratch buffer. -/
theorem first_scratch1 (hc0 : cond0_0 i) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0
        x0 x1 x2 x3 x4 x5 x6 x7 x8 x9 x10 x11 x12 x13 x14 x15 x16 x17
      = View.canon (kernelRun0_A.sl.HS1_16 c arg5 harg5 arg7 harg7 arg9 harg9 arg12 harg12 x4 x6 x8 x11) := by
  unfold sout0_A_1
  rw [View.read_writes_junk_eq_canon]
  rfl

/-- The first grid point's pieces for the shared layer's weights make up what it leaves in that scratch buffer. -/
theorem first_scratch2 (hc0 : cond0_0 i) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0
        x0 x1 x2 x3 x4 x5 x6 x7 x8 x9 x10 x11 x12 x13 x14 x15 x16 x17
      = View.canon (kernelRun0_A.sl.HS2_5 c arg17 harg17 x16) := by
  unfold sout0_A_2
  rw [View.read_writes_junk_eq_canon]
  rfl

/-- The first grid point's pieces for the rows make up what it leaves in that scratch buffer. -/
theorem first_scratch3 (hc0 : cond0_0 i) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0
        x0 x1 x2 x3 x4 x5 x6 x7 x8 x9 x10 x11 x12 x13 x14 x15 x16 x17
      = View.canon (kernelRun0_A.sl.HS3_21 c arg4 harg4 arg5 harg5 arg6 harg6 arg8 harg8 arg9 harg9 arg10 harg10 arg11 harg11 arg12 harg12 arg13 harg13 arg14 harg14 arg15 harg15 arg16 harg16
          x3 x4 x5 x7 x8 x9 x10 x11 x12 x13 x14 x15) := by
  unfold sout0_A_3
  rw [View.read_writes_junk_eq_canon]
  rfl

/-- The first grid point stores the body's result over what it has just left in the scratch buffers. -/
theorem first_out (hc0 : cond0_0 i) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0
        x0 x1 x2 x3 x4 x5 x6 x7 x8 x9 x10 x11 x12 x13 x14 x15 x16 x17
      = stored x0 x1 (View.canon (kernelRun0_A.sl.HS0_7 c arg3 harg3 x2))
          (View.canon (kernelRun0_A.sl.HS1_16 c arg5 harg5 arg7 harg7 arg9 harg9 arg12 harg12 x4 x6 x8 x11))
          (View.canon (kernelRun0_A.sl.HS2_5 c arg17 harg17 x16))
          (View.canon (kernelRun0_A.sl.HS3_21 c arg4 harg4 arg5 harg5 arg6 harg6 arg8 harg8 arg9 harg9 arg10 harg10 arg11 harg11 arg12 harg12 arg13 harg13 arg14 harg14 arg15 harg15 arg16 harg16
          x3 x4 x5 x7 x8 x9 x10 x11 x12 x13 x14 x15)) x17 := by
  unfold out0_A_18
  rw [View.read_writes_junk_eq_canon]
  unfold kernelRun0_A
  sl_unfold_run_values
  refine (View.canon_cons_unit_lit _ _ _ (by decide)).trans ?_
  rw [load_eq harg1, load_eq harg2, load_eq harg18]
  rw [View.ld_unit_lit _ x0 (by decide), View.ld_unit_lit _ x1 (by decide), View.ld_unit_lit _ x17 (by decide)]
  rw [cov_eq arg20.view, cov_eq arg21.view, cov_eq arg22.view, cov_eq arg23.view, cov_eq arg23.view, cov_eq arg23.view,
    cov_eq arg23.view]
  rw [View.ld_unit_lit _ (View.canon (kernelRun0_A.sl.HS0_7 c arg3 harg3 x2)) (by decide),
    View.ld_unit_lit _ (View.canon (kernelRun0_A.sl.HS1_16 c arg5 harg5 arg7 harg7 arg9 harg9 arg12 harg12 x4 x6 x8 x11)) (by decide),
    View.ld_unit_lit _ (View.canon (kernelRun0_A.sl.HS2_5 c arg17 harg17 x16)) (by decide)]
  rw [row_eq 0 224 (by decide) (by decide), row_eq 1 160 (by decide) (by decide), row_eq 2 160 (by decide) (by decide),
    row_eq 3 160 (by decide) (by decide)]
  erw [chunks_eq]
  rfl

end Cert.Branch

end
-- ==== Proof.Widened.lean ====
/-
  The widened weights and the rows, read at a block: which learned array each block holds.  And one step of reading
  what a list of stores leaves in a two-axis buffer.
-/
module

public import proofs.«01_k».proof.Proof.Arrays
public import Idealize.ShloMosaic.Lib.Pipeline.ValueKit.Basic

@[expose] public section

noncomputable section

namespace Cert.Branch

open Idealize.ShloMosaic

/-- What a list of stores leaves at `(q, r)`: if the last store agrees there with `g` whenever it reaches `(q, r)`, and
    the stores before it leave `g` there whenever it does not, the whole list leaves `g` there. -/
theorem canon_step {m n h w : ℕ} {o₁ o₂ : ℕ} (g : Fin m → Fin n → EReal) (q : Fin m) (r : Fin n)
    (inb : ∀ a : Fin 2, (![o₁, o₂] : Fin 2 → ℕ) a + (⟨2, ![h, w]⟩ : Shape).size a ≤ (⟨2, ![m, n]⟩ : Shape).size a)
    (v : (⟨2, ![h, w]⟩ : Shape).Idx → Elt Ideal .f32) (L : List (View.Piece (Elt Ideal) ⟨2, ![m, n]⟩ .f32))
    (hit : ∀ (a : Fin h) (b : Fin w), q.val = o₁ + a.val → r.val = o₂ + b.val → v (ix2 a b) = g q r)
    (miss : ¬(o₁ ≤ q.val ∧ q.val < o₁ + h ∧ o₂ ≤ r.val ∧ r.val < o₂ + w) → View.canon L (ix2 q r) = g q r) :
    View.canon ((⟨Rect.unit (s := (⟨2, ![m, n]⟩ : Shape)) ![o₁, o₂] (⟨2, ![h, w]⟩ : Shape).size inb, v⟩ :
      View.Piece (Elt Ideal) ⟨2, ![m, n]⟩ .f32) :: L) (ix2 q r) = g q r := by
  by_cases hm : o₁ ≤ q.val ∧ q.val < o₁ + h ∧ o₂ ≤ r.val ∧ r.val < o₂ + w
  · obtain ⟨h1, h2, h3, h4⟩ := hm
    have e := View.canon_cons_emb (Val := Elt Ideal)
      (Rect.unit (s := (⟨2, ![m, n]⟩ : Shape)) ![o₁, o₂] (⟨2, ![h, w]⟩ : Shape).size inb) v L
      (ix2 (⟨q.val - o₁, by omega⟩ : Fin h) (⟨r.val - o₂, by omega⟩ : Fin w))
    have hi : (Rect.unit (s := (⟨2, ![m, n]⟩ : Shape)) ![o₁, o₂] (⟨2, ![h, w]⟩ : Shape).size inb).emb
        (ix2 (⟨q.val - o₁, by omega⟩ : Fin h) (⟨r.val - o₂, by omega⟩ : Fin w)) = ix2 q r := by
      funext a
      refine Fin.ext ?_
      match a with
      | ⟨0, _⟩ => show o₁ + 1 * (q.val - o₁) = q.val; omega
      | ⟨1, _⟩ => show o₂ + 1 * (r.val - o₂) = r.val; omega
    rw [hi] at e
    exact e.trans (hit _ _ (by show q.val = o₁ + (q.val - o₁); omega) (by show r.val = o₂ + (r.val - o₂); omega))
  · rw [View.canon_cons_of_not_mem]
    · exact miss hm
    · intro hin
      have hin := (Rect.mem_set_unit (inb := inb)).mp hin
      have h0 : o₁ ≤ q.val ∧ q.val < o₁ + h := hin (0 : Fin 2)
      have h1 : o₂ ≤ r.val ∧ r.val < o₂ + w := hin (1 : Fin 2)
      exact hm ⟨h0.1, h0.2, h1.1, h1.2⟩

/-- What a store over the whole of a two-axis buffer leaves is its payload. -/
theorem canon_fill {m n : ℕ} (q : Fin m) (r : Fin n)
    (inb : ∀ a : Fin 2, (![0, 0] : Fin 2 → ℕ) a + (⟨2, ![m, n]⟩ : Shape).size a ≤ (⟨2, ![m, n]⟩ : Shape).size a)
    (v : (⟨2, ![m, n]⟩ : Shape).Idx → Elt Ideal .f32) (L : List (View.Piece (Elt Ideal) ⟨2, ![m, n]⟩ .f32)) :
    View.canon ((⟨Rect.unit (s := (⟨2, ![m, n]⟩ : Shape)) ![0, 0] (⟨2, ![m, n]⟩ : Shape).size inb, v⟩ :
      View.Piece (Elt Ideal) ⟨2, ![m, n]⟩ .f32) :: L) (ix2 q r) = v (ix2 q r) :=
  congrFun (View.canon_cons_unit_lit inb v L fun a => by
    match a with
    | ⟨0, _⟩ => rfl
    | ⟨1, _⟩ => rfl) _

/-- An entry of the second layer widened in the column group from `o`, outside that group's three blocks, lies over the
    experts' rows and off the diagonal. -/
theorem off_blocks {q : Fin 224} {r : Fin 160} {o : ℕ} (ho : 32 * (r.val / 32) = o)
    (h1 : ¬(192 ≤ q.val ∧ q.val < 192 + 32 ∧ o ≤ r.val ∧ r.val < o + 32))
    (h2 : ¬(160 ≤ q.val ∧ q.val < 160 + 32 ∧ o ≤ r.val ∧ r.val < o + 32))
    (h3 : ¬(o ≤ q.val ∧ q.val < o + 32 ∧ o ≤ r.val ∧ r.val < o + 32)) : q.val < 160 ∧ q.val / 32 ≠ r.val / 32 := by
  have a : o ≤ r.val ∧ r.val < o + 32 := by omega
  have b := q.isLt
  simp only [a, and_true] at h1 h2 h3
  omega

/-- An entry of the rows in the column group from `o`, outside that group's four rows, lies below them. -/
theorem off_rows {q : Fin 8} {r : Fin 224} {o : ℕ} (ho : 32 * (r.val / 32) = o)
    (h3 : ¬(3 ≤ q.val ∧ q.val < 3 + 1 ∧ o ≤ r.val ∧ r.val < o + 32))
    (h2 : ¬(2 ≤ q.val ∧ q.val < 2 + 1 ∧ o ≤ r.val ∧ r.val < o + 32))
    (h1 : ¬(1 ≤ q.val ∧ q.val < 1 + 1 ∧ o ≤ r.val ∧ r.val < o + 32))
    (h0 : ¬(0 ≤ q.val ∧ q.val < 0 + 1 ∧ o ≤ r.val ∧ r.val < o + 32)) : 4 ≤ q.val ∨ 160 ≤ r.val := by
  have a : o ≤ r.val ∧ r.val < o + 32 := by omega
  simp only [a, and_true] at h0 h1 h2 h3
  omega

variable (p : Params)

/-- The columns of expert `e` in the first layer widened are that expert's weights. -/
theorem wide1_block (e : Fin 5) {a k : Fin 32} {q : Fin 32} {r : Fin 224} (hq : q.val = 0 + a.val)
    (hr : r.val = 32 * e.val + k.val) : wide1 p q r = p.W1 e a k := by
  unfold wide1
  rw [dif_pos (by omega)]
  congr 1 <;> exact Fin.ext (by (try simp only [grp, unit32]); omega)

/-- The columns from 160 of the first layer widened are the identity. -/
theorem wide1_eye {a k : Fin 32} {q : Fin 32} {r : Fin 224} (hq : q.val = 0 + a.val) (hr : r.val = 160 + k.val) :
    wide1 p q r = if a.val = k.val then 1 else 0 := by
  unfold wide1
  rw [dif_neg (by omega), if_pos (by omega)]
  have e : (q.val = r.val % 32) = (a.val = k.val) := propext (by omega)
  simp only [e]

/-- The columns from 192 of the first layer widened are minus the identity. -/
theorem wide1_neg {a k : Fin 32} {q : Fin 32} {r : Fin 224} (hq : q.val = 0 + a.val) (hr : r.val = 192 + k.val) :
    wide1 p q r = 0 - if a.val = k.val then 1 else 0 := by
  unfold wide1
  rw [dif_neg (by omega), if_neg (by omega)]
  have e : (q.val = r.val % 32) = (a.val = k.val) := propext (by omega)
  simp only [e]

/-- The diagonal block of expert `e` in the second layer widened. -/
theorem wide2_block (e : Fin 5) {a k : Fin 32} {q : Fin 224} {r : Fin 160} (hq : q.val = 32 * e.val + a.val)
    (hr : r.val = 32 * e.val + k.val) : wide2 p q r = scale1 p e a * p.W2 e a k := by
  unfold wide2
  rw [dif_pos (by omega), if_pos (by omega)]
  congr 1 <;> congr 1 <;> exact Fin.ext (by (try simp only [grp, unit32]); omega)

/-- The shortcut block of expert `e` in the second layer widened. -/
theorem wide2_short (e : Fin 5) {a k : Fin 32} {q : Fin 224} {r : Fin 160} (hq : q.val = 160 + a.val)
    (hr : r.val = 32 * e.val + k.val) : wide2 p q r = p.Ws e a k := by
  unfold wide2
  rw [dif_neg (by omega), if_pos (by omega)]
  congr 1 <;> exact Fin.ext (by (try simp only [grp, unit32]); omega)

/-- The negated shortcut block of expert `e` in the second layer widened. -/
theorem wide2_neg (e : Fin 5) {a k : Fin 32} {q : Fin 224} {r : Fin 160} (hq : q.val = 192 + a.val)
    (hr : r.val = 32 * e.val + k.val) : wide2 p q r = 0 - p.Ws e a k := by
  unfold wide2
  rw [dif_neg (by omega), if_neg (by omega)]
  congr 2 <;> exact Fin.ext (by (try simp only [grp, unit32]); omega)

/-- Off the diagonal blocks the second layer widened is zero over the experts' rows. -/
theorem wide2_zero {q : Fin 224} {r : Fin 160} (hq : q.val < 160) (h : q.val / 32 ≠ r.val / 32) :
    wide2 p q r = 0 := by
  unfold wide2
  rw [dif_pos hq, if_neg h]

/-- Every group of rows of the shared layer widened holds the same scaled weights. -/
theorem wide3_block (e : Fin 5) {a k : Fin 32} {q : Fin 160} {r : Fin 32} (hq : q.val = 32 * e.val + a.val)
    (hr : r.val = 0 + k.val) : wide3 p q r = p.Wsh a k * wgt := by
  unfold wide3
  congr 2 <;> exact Fin.ext (by (try simp only [unit32]); omega)

/-- The value row `i` holds for expert `e` at column `k`. -/
def rowOf (i : Fin 4) (e : Fin 5) (k : Fin 32) : EReal :=
  match i with
  | 0 => p.b1 e k
  | 1 => bias2 p e k
  | 2 => scale2 p e k
  | 3 => p.beta2 e k - p.m2 e k * scale2 p e k

/-- The first four rows, over expert `e`'s columns. -/
theorem rows_block (i : Fin 4) (e : Fin 5) {a : Fin 1} {k : Fin 32} {q : Fin 8} {r : Fin 224} (hq : q.val = i.val + a.val)
    (hr : r.val = 32 * e.val + k.val) : rows p q r = rowOf p i e k := by
  have hq : q.val = i.val := by omega
  have he : grp r.val (by omega) = e := Fin.ext (by simp only [grp]; omega)
  have hk : unit32 r.val = k := Fin.ext (by (try simp only [unit32]); omega)
  unfold rows
  rw [dif_pos (by omega), he, hk, hq]
  match i with
  | 0 => rfl
  | 1 => rfl
  | 2 => rfl
  | 3 => rfl

/-- Below the first four rows, and past the experts' columns, the rows hold zero. -/
theorem rows_zero {q : Fin 8} {r : Fin 224} (h : 4 ≤ q.val ∨ 160 ≤ r.val) : rows p q r = 0 := by
  unfold rows
  split_ifs <;> first | rfl | omega

end Cert.Branch

end
-- ==== Proof.Prepared.lean ====
/-
  What the first grid point leaves in the scratch buffers: the widened weights and the rows.
-/
module

public import proofs.«01_k».proof.Proof.Point
public import proofs.«01_k».proof.Proof.Widened

@[expose] public section

set_option maxRecDepth 16384

noncomputable section

namespace Cert.Branch

open Cert.KernelIdeal Cert.KernelIdeal.Gen Idealize.ShloMosaic Idealize.ShloMosaic.TcCoe Idealize.SL.Sem

variable (c : Dev nD) (i : grid0.Coords)
  (arg1 : Memref sig .tc .vmem S32x128 .i32) (harg1 : arg1.IsWhole) (arg2 : Memref sig .tc .vmem S4096x32 .f32)
  (harg2 : arg2.IsWhole) (arg3 : Memref sig .tc .vmem S5x32x32 .f32) (harg3 : arg3.IsWhole)
  (arg4 : Memref sig .tc .vmem S5x32 .f32) (harg4 : arg4.IsWhole) (arg5 : Memref sig .tc .vmem S5x32x32 .f32)
  (harg5 : arg5.IsWhole) (arg6 : Memref sig .tc .vmem S5x32 .f32) (harg6 : arg6.IsWhole)
  (arg7 : Memref sig .tc .vmem S5x32x32 .f32) (harg7 : arg7.IsWhole) (arg8 : Memref sig .tc .vmem S5x32 .f32)
  (harg8 : arg8.IsWhole) (arg9 : Memref sig .tc .vmem S5x32 .f32) (harg9 : arg9.IsWhole)
  (arg10 : Memref sig .tc .vmem S5x32 .f32) (harg10 : arg10.IsWhole) (arg11 : Memref sig .tc .vmem S5x32 .f32)
  (harg11 : arg11.IsWhole) (arg12 : Memref sig .tc .vmem S5x32 .f32) (harg12 : arg12.IsWhole)
  (arg13 : Memref sig .tc .vmem S5x32 .f32) (harg13 : arg13.IsWhole) (arg14 : Memref sig .tc .vmem S5x32 .f32)
  (harg14 : arg14.IsWhole) (arg15 : Memref sig .tc .vmem S5x32 .f32) (harg15 : arg15.IsWhole)
  (arg16 : Memref sig .tc .vmem S5x32 .f32) (harg16 : arg16.IsWhole) (arg17 : Memref sig .tc .vmem S32x32 .f32)
  (harg17 : arg17.IsWhole) (arg18 : Memref sig .tc .vmem S32 .f32) (harg18 : arg18.IsWhole)
  (arg19 : Memref sig .tc .vmem S4096x32 .f32) (harg19 : arg19.IsWhole) (arg20 : Memref sig .tc .vmem S32x224 .f32)
  (harg20 : arg20.IsWhole) (arg21 : Memref sig .tc .vmem S224x160 .f32) (harg21 : arg21.IsWhole)
  (arg22 : Memref sig .tc .vmem S160x32 .f32) (harg22 : arg22.IsWhole) (arg23 : Memref sig .tc .vmem S8x224 .f32)
  (harg23 : arg23.IsWhole)
  (x0 : Vec Ideal S32x128 .i32) (x1 : Vec Ideal S4096x32 .f32) (x2 : Vec Ideal S5x32x32 .f32)
  (x3 : Vec Ideal S5x32 .f32) (x4 : Vec Ideal S5x32x32 .f32) (x5 : Vec Ideal S5x32 .f32)
  (x6 : Vec Ideal S5x32x32 .f32) (x7 : Vec Ideal S5x32 .f32) (x8 : Vec Ideal S5x32 .f32) (x9 : Vec Ideal S5x32 .f32)
  (x10 : Vec Ideal S5x32 .f32) (x11 : Vec Ideal S5x32 .f32) (x12 : Vec Ideal S5x32 .f32) (x13 : Vec Ideal S5x32 .f32)
  (x14 : Vec Ideal S5x32 .f32) (x15 : Vec Ideal S5x32 .f32) (x16 : Vec Ideal S32x32 .f32) (x17 : Vec Ideal S32 .f32)
  (xs0 : Vec Ideal S32x224 .f32) (xs1 : Vec Ideal S224x160 .f32) (xs2 : Vec Ideal S160x32 .f32)
  (xs3 : Vec Ideal S8x224 .f32)

/-- A column below 160 lies in one of the five groups of 32. -/
theorem fifths {r : ℕ} (h : r < 160) : 32 * (r / 32) = 0 ∨ 32 * (r / 32) = 32 ∨ 32 * (r / 32) = 64 ∨ 32 * (r / 32) = 96 ∨
    32 * (r / 32) = 128 := by
  omega

/-- The identity's entries, as the kernel makes them: one where the two coordinates agree, zero elsewhere. -/
theorem eye_eq (a b : Fin 32) :
    Scalar.select (IntOp.cmpi CmpIPredicate.eq (BitVec.ofNat 32 a.val) (BitVec.ofNat 32 b.val)) (1 : EReal) 0
      = if a.val = b.val then 1 else 0 := by
  have ha := a.isLt
  have hb := b.isLt
  by_cases h : a.val = b.val
  · rw [if_pos h, h]; simp [IntOp.cmpi, Scalar.select]
  · rw [if_neg h]
    have hne : BitVec.ofNat 32 a.val ≠ BitVec.ofNat 32 b.val := fun e => h (by
      have := congrArg BitVec.toNat e
      simp only [BitVec.toNat_ofNat] at this
      omega)
    simp [IntOp.cmpi, Scalar.select, beq_false_of_ne hne]

/-- The first buffer holds the first layer widened. -/
theorem prepared0 (q : Fin 32) (r : Fin 224) :
    View.canon (kernelRun0_A.sl.HS0_7 (F := Ideal) c arg3 harg3 x2) (ix2 q r)
      = wide1 (paramsOf x2 x3 x4 x5 x6 x7 x8 x9 x10 x11 x12 x13 x14 x15 x16 x17) q r := by
  sl_unfold_words
  refine canon_step (h := 32) (w := 32) _ q r _ _ _ (fun a b hq hr => ?_) fun h4 => ?_
  · rw [load_eq harg3, wide1_block _ 4 hq hr]; pointwise [k0_pay66]
  refine canon_step (h := 32) (w := 32) _ q r _ _ _ (fun a b hq hr => ?_) fun h3 => ?_
  · rw [load_eq harg3, wide1_block _ 3 hq hr]; pointwise [k0_pay53]
  refine canon_step (h := 32) (w := 32) _ q r _ _ _ (fun a b hq hr => ?_) fun h2 => ?_
  · rw [load_eq harg3, wide1_block _ 2 hq hr]; pointwise [k0_pay39]
  refine canon_step (h := 32) (w := 32) _ q r _ _ _ (fun a b hq hr => ?_) fun h1 => ?_
  · rw [load_eq harg3, wide1_block _ 1 hq hr]; pointwise [k0_pay25]
  refine canon_step (h := 32) (w := 32) _ q r _ _ _ (fun a b hq hr => ?_) fun h0 => ?_
  · rw [load_eq harg3, wide1_block _ 0 hq hr]; pointwise [k0_pay10]
  refine canon_step (h := 32) (w := 32) _ q r _ _ _ (fun a b hq hr => ?_) fun h5 => ?_
  · rw [wide1_neg _ hq hr]; pointwise [k0_pay7, k0_pay5]; exact congrArg (0 - ·) (eye_eq a b)
  refine canon_step (h := 32) (w := 32) _ q r _ _ _ (fun a b hq hr => ?_) fun h6 => ?_
  · rw [wide1_eye _ hq hr]; pointwise [k0_pay6, k0_pay5]; exact eye_eq a b
  omega

/-- The third buffer holds the shared layer widened. -/
theorem prepared2 (q : Fin 160) (r : Fin 32) :
    View.canon (kernelRun0_A.sl.HS2_5 (F := Ideal) c arg17 harg17 x16) (ix2 q r)
      = wide3 (paramsOf x2 x3 x4 x5 x6 x7 x8 x9 x10 x11 x12 x13 x14 x15 x16 x17) q r := by
  sl_unfold_words
  refine canon_step (h := 32) (w := 32) _ q r _ _ _ (fun a b hq hr => ?_) fun h4 => ?_
  · rw [load_eq harg17, wide3_block _ 4 hq hr]; pointwise [k0_pay79]; rfl
  refine canon_step (h := 32) (w := 32) _ q r _ _ _ (fun a b hq hr => ?_) fun h3 => ?_
  · rw [load_eq harg17, wide3_block _ 3 hq hr]; pointwise [k0_pay65]; rfl
  refine canon_step (h := 32) (w := 32) _ q r _ _ _ (fun a b hq hr => ?_) fun h2 => ?_
  · rw [load_eq harg17, wide3_block _ 2 hq hr]; pointwise [k0_pay52]; rfl
  refine canon_step (h := 32) (w := 32) _ q r _ _ _ (fun a b hq hr => ?_) fun h1 => ?_
  · rw [load_eq harg17, wide3_block _ 1 hq hr]; pointwise [k0_pay38]; rfl
  refine canon_step (h := 32) (w := 32) _ q r _ _ _ (fun a b hq hr => ?_) fun h0 => ?_
  · rw [load_eq harg17, wide3_block _ 0 hq hr]; pointwise [k0_pay24]; rfl
  omega

/-- The second buffer holds the second layer widened. -/
theorem prepared1 (q : Fin 224) (r : Fin 160) :
    View.canon (kernelRun0_A.sl.HS1_16 (F := Ideal) c arg5 harg5 arg7 harg7 arg9 harg9 arg12 harg12 x4 x6 x8 x11) (ix2 q r)
      = wide2 (paramsOf x2 x3 x4 x5 x6 x7 x8 x9 x10 x11 x12 x13 x14 x15 x16 x17) q r := by
  sl_unfold_words
  refine canon_step (h := 32) (w := 32) _ q r _ _ _ (fun a b hq hr => ?_) fun h0 => ?_
  · rw [load_eq harg7, wide2_neg _ 4 hq hr]; pointwise [k0_pay72]
  refine canon_step (h := 32) (w := 32) _ q r _ _ _ (fun a b hq hr => ?_) fun h1 => ?_
  · rw [load_eq harg7, wide2_short _ 4 hq hr]; pointwise [k0_pay71]
  refine canon_step (h := 32) (w := 32) _ q r _ _ _ (fun a b hq hr => ?_) fun h2 => ?_
  · rw [load_eq harg5, load_eq harg9, load_eq harg12, wide2_block _ 4 hq hr]; pointwise [k0_pay70, k0_pay69, k0_pay67, k0_pay8, k0_pay9]; rfl
  refine canon_step (h := 32) (w := 32) _ q r _ _ _ (fun a b hq hr => ?_) fun h3 => ?_
  · rw [load_eq harg7, wide2_neg _ 3 hq hr]; pointwise [k0_pay58]
  refine canon_step (h := 32) (w := 32) _ q r _ _ _ (fun a b hq hr => ?_) fun h4 => ?_
  · rw [load_eq harg7, wide2_short _ 3 hq hr]; pointwise [k0_pay57]
  refine canon_step (h := 32) (w := 32) _ q r _ _ _ (fun a b hq hr => ?_) fun h5 => ?_
  · rw [load_eq harg5, load_eq harg9, load_eq harg12, wide2_block _ 3 hq hr]; pointwise [k0_pay56, k0_pay55, k0_pay8, k0_pay9]; rfl
  refine canon_step (h := 32) (w := 32) _ q r _ _ _ (fun a b hq hr => ?_) fun h6 => ?_
  · rw [load_eq harg7, wide2_neg _ 2 hq hr]; pointwise [k0_pay45]
  refine canon_step (h := 32) (w := 32) _ q r _ _ _ (fun a b hq hr => ?_) fun h7 => ?_
  · rw [load_eq harg7, wide2_short _ 2 hq hr]; pointwise [k0_pay44]
  refine canon_step (h := 32) (w := 32) _ q r _ _ _ (fun a b hq hr => ?_) fun h8 => ?_
  · rw [load_eq harg5, load_eq harg9, load_eq harg12, wide2_block _ 2 hq hr]; pointwise [k0_pay43, k0_pay42, k0_pay40, k0_pay8, k0_pay9]; rfl
  refine canon_step (h := 32) (w := 32) _ q r _ _ _ (fun a b hq hr => ?_) fun h9 => ?_
  · rw [load_eq harg7, wide2_neg _ 1 hq hr]; pointwise [k0_pay30]
  refine canon_step (h := 32) (w := 32) _ q r _ _ _ (fun a b hq hr => ?_) fun h10 => ?_
  · rw [load_eq harg7, wide2_short _ 1 hq hr]; pointwise [k0_pay29]
  refine canon_step (h := 32) (w := 32) _ q r _ _ _ (fun a b hq hr => ?_) fun h11 => ?_
  · rw [load_eq harg5, load_eq harg9, load_eq harg12, wide2_block _ 1 hq hr]; pointwise [k0_pay28, k0_pay27, k0_pay8, k0_pay9]; rfl
  refine canon_step (h := 32) (w := 32) _ q r _ _ _ (fun a b hq hr => ?_) fun h12 => ?_
  · rw [load_eq harg7, wide2_neg _ 0 hq hr]; pointwise [k0_pay18, k0_pay17]
  refine canon_step (h := 32) (w := 32) _ q r _ _ _ (fun a b hq hr => ?_) fun h13 => ?_
  · rw [load_eq harg7, wide2_short _ 0 hq hr]; pointwise [k0_pay16]
  refine canon_step (h := 32) (w := 32) _ q r _ _ _ (fun a b hq hr => ?_) fun h14 => ?_
  · rw [load_eq harg5, load_eq harg9, load_eq harg12, wide2_block _ 0 hq hr]; pointwise [k0_pay15, k0_pay14, k0_pay11, k0_pay12, k0_pay8, k0_pay9]; rfl
  rw [canon_fill]
  have off : q.val < 160 ∧ q.val / 32 ≠ r.val / 32 := by
    rcases fifths r.isLt with h | h | h | h | h
    · exact off_blocks h h12 h13 h14
    · exact off_blocks h h9 h10 h11
    · exact off_blocks h h6 h7 h8
    · exact off_blocks h h3 h4 h5
    · exact off_blocks h h0 h1 h2
  rw [wide2_zero _ off.1 off.2]
  pointwise [k0_pay3]

/-- The fourth buffer holds the rows. -/
theorem prepared3 (q : Fin 8) (r : Fin 224) :
    View.canon (kernelRun0_A.sl.HS3_21 (F := Ideal) c arg4 harg4 arg5 harg5 arg6 harg6 arg8 harg8 arg9 harg9 arg10 harg10 arg11 harg11 arg12 harg12 arg13 harg13 arg14 harg14 arg15 harg15 arg16 harg16 x3 x4 x5 x7 x8 x9 x10 x11 x12 x13 x14 x15) (ix2 q r)
      = rows (paramsOf x2 x3 x4 x5 x6 x7 x8 x9 x10 x11 x12 x13 x14 x15 x16 x17) q r := by
  sl_unfold_words
  refine canon_step (h := 1) (w := 32) _ q r _ _ _ (fun a b hq hr => ?_) fun h0 => ?_
  · rw [load_eq harg13, load_eq harg14, load_eq harg15, load_eq harg16, rows_block _ 3 4 hq hr]; pointwise [k0_pay78, k0_pay74]; rfl
  refine canon_step (h := 1) (w := 32) _ q r _ _ _ (fun a b hq hr => ?_) fun h1 => ?_
  · rw [load_eq harg13, load_eq harg16, rows_block _ 2 4 hq hr]; pointwise [k0_pay77, k0_pay74]; rfl
  refine canon_step (h := 1) (w := 32) _ q r _ _ _ (fun a b hq hr => ?_) fun h2 => ?_
  · rw [load_eq harg5, load_eq harg6, load_eq harg8, load_eq harg9, load_eq harg10, load_eq harg11, load_eq harg12, rows_block _ 1 4 hq hr]; pointwise [k0_pay76, k0_pay73, k0_pay69, k0_pay68]; rfl
  refine canon_step (h := 1) (w := 32) _ q r _ _ _ (fun a b hq hr => ?_) fun h3 => ?_
  · rw [load_eq harg4, rows_block _ 0 4 hq hr]; pointwise [k0_pay75]; rfl
  refine canon_step (h := 1) (w := 32) _ q r _ _ _ (fun a b hq hr => ?_) fun h4 => ?_
  · rw [load_eq harg13, load_eq harg14, load_eq harg15, load_eq harg16, rows_block _ 3 3 hq hr]; pointwise [k0_pay64, k0_pay60, k0_pay59]; rfl
  refine canon_step (h := 1) (w := 32) _ q r _ _ _ (fun a b hq hr => ?_) fun h5 => ?_
  · rw [load_eq harg13, load_eq harg16, rows_block _ 2 3 hq hr]; pointwise [k0_pay63, k0_pay59]; rfl
  refine canon_step (h := 1) (w := 32) _ q r _ _ _ (fun a b hq hr => ?_) fun h6 => ?_
  · rw [load_eq harg5, load_eq harg6, load_eq harg8, load_eq harg9, load_eq harg10, load_eq harg11, load_eq harg12, rows_block _ 1 3 hq hr]; pointwise [k0_pay62, k0_pay55, k0_pay54]; rfl
  refine canon_step (h := 1) (w := 32) _ q r _ _ _ (fun a b hq hr => ?_) fun h7 => ?_
  · rw [load_eq harg4, rows_block _ 0 3 hq hr]; pointwise [k0_pay61]; rfl
  refine canon_step (h := 1) (w := 32) _ q r _ _ _ (fun a b hq hr => ?_) fun h8 => ?_
  · rw [load_eq harg13, load_eq harg14, load_eq harg15, load_eq harg16, rows_block _ 3 2 hq hr]; pointwise [k0_pay51, k0_pay47]; rfl
  refine canon_step (h := 1) (w := 32) _ q r _ _ _ (fun a b hq hr => ?_) fun h9 => ?_
  · rw [load_eq harg13, load_eq harg16, rows_block _ 2 2 hq hr]; pointwise [k0_pay50, k0_pay47]; rfl
  refine canon_step (h := 1) (w := 32) _ q r _ _ _ (fun a b hq hr => ?_) fun h10 => ?_
  · rw [load_eq harg5, load_eq harg6, load_eq harg8, load_eq harg9, load_eq harg10, load_eq harg11, load_eq harg12, rows_block _ 1 2 hq hr]; pointwise [k0_pay49, k0_pay46, k0_pay42, k0_pay41]; rfl
  refine canon_step (h := 1) (w := 32) _ q r _ _ _ (fun a b hq hr => ?_) fun h11 => ?_
  · rw [load_eq harg4, rows_block _ 0 2 hq hr]; pointwise [k0_pay48]; rfl
  refine canon_step (h := 1) (w := 32) _ q r _ _ _ (fun a b hq hr => ?_) fun h12 => ?_
  · rw [load_eq harg13, load_eq harg14, load_eq harg15, load_eq harg16, rows_block _ 3 1 hq hr]; pointwise [k0_pay37, k0_pay33, k0_pay32]; rfl
  refine canon_step (h := 1) (w := 32) _ q r _ _ _ (fun a b hq hr => ?_) fun h13 => ?_
  · rw [load_eq harg13, load_eq harg16, rows_block _ 2 1 hq hr]; pointwise [k0_pay36, k0_pay32]; rfl
  refine canon_step (h := 1) (w := 32) _ q r _ _ _ (fun a b hq hr => ?_) fun h14 => ?_
  · rw [load_eq harg5, load_eq harg6, load_eq harg8, load_eq harg9, load_eq harg10, load_eq harg11, load_eq harg12, rows_block _ 1 1 hq hr]; pointwise [k0_pay35, k0_pay31, k0_pay27, k0_pay26]; rfl
  refine canon_step (h := 1) (w := 32) _ q r _ _ _ (fun a b hq hr => ?_) fun h15 => ?_
  · rw [load_eq harg4, rows_block _ 0 1 hq hr]; pointwise [k0_pay34]; rfl
  refine canon_step (h := 1) (w := 32) _ q r _ _ _ (fun a b hq hr => ?_) fun h16 => ?_
  · rw [load_eq harg13, load_eq harg14, load_eq harg15, load_eq harg16, rows_block _ 3 0 hq hr]; pointwise [k0_pay23, k0_pay19]; rfl
  refine canon_step (h := 1) (w := 32) _ q r _ _ _ (fun a b hq hr => ?_) fun h17 => ?_
  · rw [load_eq harg13, load_eq harg16, rows_block _ 2 0 hq hr]; pointwise [k0_pay22, k0_pay19]; rfl
  refine canon_step (h := 1) (w := 32) _ q r _ _ _ (fun a b hq hr => ?_) fun h18 => ?_
  · rw [load_eq harg5, load_eq harg6, load_eq harg8, load_eq harg9, load_eq harg10, load_eq harg11, load_eq harg12, rows_block _ 1 0 hq hr]; pointwise [k0_pay21, k0_pay14, k0_pay13]; rfl
  refine canon_step (h := 1) (w := 32) _ q r _ _ _ (fun a b hq hr => ?_) fun h19 => ?_
  · rw [load_eq harg4, rows_block _ 0 0 hq hr]; pointwise [k0_pay20]; rfl
  rw [canon_fill]
  have off : 4 ≤ q.val ∨ 160 ≤ r.val := by
    by_cases hr : r.val < 160
    · rcases fifths hr with h | h | h | h | h
      · exact off_rows h h16 h17 h18 h19
      · exact off_rows h h12 h13 h14 h15
      · exact off_rows h h8 h9 h10 h11
      · exact off_rows h h4 h5 h6 h7
      · exact off_rows h h0 h1 h2 h3
    · exact Or.inr (not_lt.mp hr)
  rw [rows_zero _ off]
  pointwise [k0_pay4]

end Cert.Branch

end
-- ==== Proof.Blocks.lean ====
/-
  What the kernel's input blocks hold: the first two move with the grid point, the rest are the arguments whole.
-/
module

public import proofs.«01_k».proof.Proof.Arrays
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Branch

open Cert.KernelIdeal Cert.KernelIdeal.Gen Idealize.ShloMosaic Idealize.ShloMosaic.TcCoe Idealize.SL.Sem

variable (m : (ℓ : Loc nD τ sig) → Buf (Elt Ideal) ℓ) (c : Dev nD)

/-- The block numbers: the species and the tokens move with the point, every other window stays on its only block. -/
theorem idx : ∀ t : Fin cfg0.N, win0_0.index t = ![t.val, 0] ∧ win0_1.index t = ![t.val, 0] ∧ win0_2.index t = ![0, 0, 0]
    ∧ win0_3.index t = ![0, 0]    ∧ win0_4.index t = ![0, 0, 0]
    ∧ win0_5.index t = ![0, 0]    ∧ win0_6.index t = ![0, 0, 0]
    ∧ win0_7.index t = ![0, 0]    ∧ win0_8.index t = ![0, 0]
    ∧ win0_9.index t = ![0, 0]    ∧ win0_10.index t = ![0, 0]
    ∧ win0_11.index t = ![0, 0]    ∧ win0_12.index t = ![0, 0]
    ∧ win0_13.index t = ![0, 0]    ∧ win0_14.index t = ![0, 0]
    ∧ win0_15.index t = ![0, 0]    ∧ win0_16.index t = ![0, 0]
    ∧ win0_17.index t = ![0] :=
  (by decide +kernel : ∀ t : Fin grid0.N, _)

/-- Point `t`'s species block, out of the species re-laid in 128 columns. -/
theorem block0 (t : Fin cfg0.N) (a : Fin 32) (b : Fin 128) :
    iblk m c 0 t (ix2 a b) = m ((c : Thread nD τ).loc main_arg1)
      (ix1 ⟨4096 * t.val + (128 * a.val + b.val), by have := lt_of_lt_of_eq t.isLt N_0; omega⟩) := by
  have hN := lt_of_lt_of_eq t.isLt N_0
  blk_ext! [iblk, V, idx t]

/-- Point `t`'s block of tokens. -/
theorem block1 (t : Fin cfg0.N) (b : Fin 4096) (d : Fin 32) :
    iblk m c 1 t (ix2 b d) = m ((c : Thread nD τ).loc main_arg0)
      (ix2 ⟨4096 * t.val + b.val, by have := lt_of_lt_of_eq t.isLt N_0; omega⟩ d) := by
  have hN := lt_of_lt_of_eq t.isLt N_0
  blk_ext! [iblk, V, idx t]

/-- The last block is the shared layer's bias, whole. -/
theorem block17 (t : Fin cfg0.N) : iblk m c 17 t = m ((c : Thread nD τ).loc main_arg17) := by
  blk_ext! [iblk, V, idx t]

/-- The learned arrays that the kernel is given. -/
def given : Params :=
  paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

set_option maxHeartbeats 2000000 in
/-- At every point the blocks of the learned arrays are those arrays whole. -/
theorem given_eq (t : Fin cfg0.N) :
    paramsOf (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
      = given m c := by
  unfold given
  congr 1 <;> blk_ext! [iblk, V, idx t]

end Cert.Branch

end
-- ==== Proof.KernelValue.lean ====
/-
  The kernel's result: after every grid point the scratch buffers hold the widened weights, so every entry of the result
  is the widened computation of its token.
-/
module

public import proofs.«01_k».proof.Proof.Prepared
public import proofs.«01_k».proof.Proof.Blocks

@[expose] public section

set_option maxRecDepth 16384

noncomputable section

namespace Cert.Branch

open Cert.KernelIdeal Cert.KernelIdeal.Gen Cert.KernelIdeal.Value Idealize.ShloMosaic Idealize.ShloMosaic.TcCoe
  Idealize.SL.Sem

/-- The contents of the four scratch buffers once the first grid point has filled them. -/
def filled (p : Params) : Vec Ideal S32x224 .f32 × Vec Ideal S224x160 .f32 × Vec Ideal S160x32 .f32 × Vec Ideal S8x224 .f32 :=
  (fun y => wide1 p (y 0) (y 1), fun y => wide2 p (y 0) (y 1), fun y => wide3 p (y 0) (y 1), fun y => rows p (y 0) (y 1))

variable (m : (ℓ : Loc nD τ sig) → Buf (Elt Ideal) ℓ) (c : Dev nD)

/-- What a grid point leaves in the output block when the scratch buffers are filled. -/
def blockOf (t : Fin cfg0.N) : Vec Ideal S4096x32 .f32 :=
  stored (iblk m c 0 t) (iblk m c 1 t) (filled (given m c)).1 (filled (given m c)).2.1 (filled (given m c)).2.2.1
    (filled (given m c)).2.2.2 (iblk m c 17 t)

/-- The first grid point fills the scratch buffers and stores its block over them. -/
theorem point_first (t : Fin cfg0.N) (acc : Vec Ideal S4096x32 .f32 × Vec Ideal S32x224 .f32 × Vec Ideal S224x160 .f32 ×
    Vec Ideal S160x32 .f32 × Vec Ideal S8x224 .f32) (h0 : t.val % 4 = 0) :
    stAt0 m c t.val t.isLt acc = (blockOf m c t, filled (given m c)) := by
  refine (stAt0_A m c t acc h0).trans ?_
  rw [first_out, first_scratch0, first_scratch1, first_scratch2, first_scratch3]
  have e0 : View.canon (kernelRun0_A.sl.HS0_7 (F := Ideal) c (ms0_2 t) (hs0_2 t) (iblk m c 2 t)) = (filled (given m c)).1 := by
    funext y
    idx_vars y
    rw [prepared0 c _ _ (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), given_eq m c t]
    rfl
  have e2 : View.canon (kernelRun0_A.sl.HS2_5 (F := Ideal) c (ms0_16 t) (hs0_16 t) (iblk m c 16 t))
      = (filled (given m c)).2.2.1 := by
    funext y
    idx_vars y
    rw [prepared2 c _ _ (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), given_eq m c t]
    rfl
  have e1 : View.canon (kernelRun0_A.sl.HS1_16 (F := Ideal) c (ms0_4 t) (hs0_4 t) (ms0_6 t) (hs0_6 t) (ms0_8 t) (hs0_8 t)
      (ms0_11 t) (hs0_11 t) (iblk m c 4 t) (iblk m c 6 t) (iblk m c 8 t) (iblk m c 11 t)) = (filled (given m c)).2.1 := by
    funext y
    idx_vars y
    rw [prepared1 c _ _ _ _ _ _ _ _ (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), given_eq m c t]
    rfl
  have e3 : View.canon (kernelRun0_A.sl.HS3_21 (F := Ideal) c (ms0_3 t) (hs0_3 t) (ms0_4 t) (hs0_4 t) (ms0_5 t) (hs0_5 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 3 t) (iblk m c 4 t) (iblk m c 5 t) (iblk m c 7 t) (iblk m c 8 t) (iblk m c 9 t) (iblk m c 10 t) (iblk m c 11 t) (iblk m c 12 t) (iblk m c 13 t) (iblk m c 14 t) (iblk m c 15 t)) = (filled (given m c)).2.2.2 := by
    funext y
    idx_vars y
    rw [prepared3 c _ _ _ _ _ _ _ _ _ _ _ _ _ _ _ _ _ _ _ _ _ _ _ _ (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t), given_eq m c t]
    rfl
  rw [e0, e1, e2, e3]
  rfl

/-- A later grid point leaves the scratch buffers filled and stores its block over them. -/
theorem point_later (t : Fin cfg0.N) (o : Vec Ideal S4096x32 .f32) (h0 : ¬t.val % 4 = 0) :
    stAt0 m c t.val t.isLt (o, filled (given m c)) = (blockOf m c t, filled (given m c)) := by
  refine (stAt0_B m c t _ h0).trans ?_
  rw [later_out]
  rfl

/-- So after every grid point the scratch buffers are filled and the output block is that point's. -/
theorem point_all (n : ℕ) (hn : 0 + n < cfg0.N) :
    Pipeline.accAt (fun n h => stAt0 m c n h junk0) (stAt0 m c) 0 n hn
      = (blockOf m c ⟨n, by omega⟩, filled (given m c)) := by
  induction n with
  | zero => exact point_first m c ⟨0, hn⟩ _ (Nat.zero_mod _)
  | succ n ih =>
    have hN : 0 + (n + 1) < 4 := lt_of_lt_of_eq hn N_0
    rw [Pipeline.accAt_succ, ih (by omega)]
    have e := point_later m c ⟨n + 1, by omega⟩ (blockOf m c ⟨n, by omega⟩) (by show ¬(n + 1) % 4 = 0; omega)
    have hz : ∀ k (hk : k < cfg0.N) (h1 : n + 1 < cfg0.N) acc, k = n + 1 → stAt0 m c k hk acc = stAt0 m c (n + 1) h1 acc := by
      intro k hk h1 acc h; subst h; rfl
    rw [hz _ _ (by omega) _ (by omega)]
    exact e

/-- A grid point's block at an entry: the widened computation of the token there, masked by its species. -/
theorem blockOf_apply (t : Fin cfg0.N) (a : Fin 4096) (j : Fin 32) (b : Fin 16384) (hb : b.val = 4096 * t.val + a.val) :
    blockOf m c t (ix2 a j) = wideOutcome (fun d => m ((c : Thread nD τ).loc main_arg0) (ix2 b d)) (wide1 (given m c))
      (wide2 (given m c)) (wide3 (given m c)) (rows (given m c))
      (fun r => m ((c : Thread nD τ).loc main_arg1) (ix1 b) = BitVec.ofNat 32 (r.val / 32)) (given m c).bsh j := by
  have e1 : ∀ d, iblk m c 1 t (ix2 a d) = m ((c : Thread nD τ).loc main_arg0) (ix2 b d) := fun d => by
    rw [block1]
    exact congrArg _ (congrArg (fun b => ix2 b d) (Fin.ext hb.symm))
  have e0 : iblk m c 0 t (ix2 (⟨a.val / 128, by omega⟩ : Fin 32) (⟨a.val % 128, by omega⟩ : Fin 128))
      = m ((c : Thread nD τ).loc main_arg1) (ix1 b) := by
    rw [block0]
    exact congrArg _ (congrArg ix1 (Fin.ext (by
      show 4096 * t.val + (128 * (a.val / 128) + a.val % 128) = b.val
      omega)))
  unfold blockOf
  rw [stored_apply, funext e1, e0, block17]
  rfl

/-- The kernel's result at token `b` and feature `j`: the widened computation of the token, masked by its species. -/
theorem result_apply (b : Fin 16384) (j : Fin 32) :
    G18 m c (ix2 b j) = wideOutcome (fun d => m ((c : Thread nD τ).loc main_arg0) (ix2 b d)) (wide1 (given m c))
      (wide2 (given m c)) (wide3 (given m c)) (rows (given m c))
      (fun r => m ((c : Thread nD τ).loc main_arg1) (ix1 b) = BitVec.ofNat 32 (r.val / 32)) (given m c).bsh j := by
  have hp : pt18Of (ix2 b j) = b.val / 4096 := by
    show 1 * (b.val / 4096 - 0) + 1 * (j.val / 32 - 0) = b.val / 4096
    omega
  have hN : pt18Of (ix2 b j) < cfg0.N := by rw [hp]; exact lt_of_lt_of_eq (by omega) N_0.symm
  have hl : loc18Of (ix2 b j) = ix2 (⟨b.val % 4096, by omega⟩ : Fin 4096) j := by
    funext a
    refine Fin.ext ?_
    match a with
    | ⟨0, _⟩ => rfl
    | ⟨1, _⟩ => show j.val % 32 = j.val; omega
  unfold G18
  rw [dif_pos hN, point_all, hl]
  exact blockOf_apply m c _ _ j b (by show b.val = 4096 * pt18Of (ix2 b j) + b.val % 4096; rw [hp]; omega)

end Cert.Branch

end
-- ==== Proof.Pre.lean ====
/-
  What the precondition says, entry by entry.
-/
module

public import proofs.«01_k».proof.Proof.Arrays
public import proofs.«01_k».proof.Pre_tame
public import Idealize.ShloMosaic.Lib.Affine

@[expose] public section

noncomputable section

namespace Cert.Branch

open Idealize.ShloMosaic

/-- A number whose absolute value is below the infinity is a real. -/
theorem real_of_lt {x : EReal} (h : BitVec.ofBool (decide (FloatOps.absf (F := Ideal) (φ := .f32) x < Ideal.ofBits .f32 0x7F800000#32)) = 1#1) :
    ∃ r : ℝ, x = r := by
  have hi : Ideal.ofBits .f32 0x7F800000#32 = ⊤ := by simp [Ideal.ofBits, Ideal.ieee]
  rw [hi] at h
  have h' : max x (-x) < ⊤ := by
    by_contra hn
    have : decide (FloatOps.absf (F := Ideal) (φ := .f32) x < (⊤ : EReal)) = false := decide_eq_false hn
    rw [this] at h
    exact absurd h (by decide)
  induction x with
  | bot => exact absurd h' (by simp)
  | top => exact absurd h' (by simp)
  | coe r => exact ⟨r, rfl⟩

/-- A comparison that answers one holds. -/
theorem lt_of_one {x y : EReal} (h : BitVec.ofBool (decide (x < y)) = 1#1) : x < y := by
  by_contra hn
  rw [decide_eq_false hn] at h
  exact absurd h (by decide)

/-- A word that is at least zero and below five is one of the five species. -/
theorem species_of_bounds {w : BitVec 32} (h0 : IntOp.cmpi .sge w 0#32 = 1#1) (h5 : IntOp.cmpi .slt w 5#32 = 1#1) :
    ∃ s : Fin 5, w = BitVec.ofNat 32 s.val := by
  have h0 := IntOp.cmpi_sge.mp h0
  have h5 := IntOp.cmpi_slt.mp h5
  rw [show (0#32 : BitVec 32).toInt = 0 by decide] at h0
  rw [show (5#32 : BitVec 32).toInt = 5 by decide] at h5
  have hw := w.isLt
  rw [BitVec.toInt_eq_toNat_cond] at h0 h5
  have hs : w.toNat < 5 := by split_ifs at h0 h5 <;> omega
  exact ⟨⟨w.toNat, hs⟩, BitVec.eq_of_toNat_eq (by
    rw [BitVec.toNat_ofNat]
    show w.toNat = w.toNat % 2 ^ 32
    omega)⟩

/-- The precondition: the arrays that the fold of the batch norms multiplies are real, both variances stay positive, and
    every species is one of the five. -/
theorem tame_of [Cert.Pre_tame.Facts] (x0 : FVec Ideal ⟨2, ![16384, 32]⟩ .f32) (x1 : IVec ⟨1, ![16384]⟩ 32)
    (x2 : FVec Ideal ⟨3, ![5, 32, 32]⟩ .f32) (x3 : FVec Ideal ⟨2, ![5, 32]⟩ .f32) (x4 : FVec Ideal ⟨3, ![5, 32, 32]⟩ .f32)
    (x5 : FVec Ideal ⟨2, ![5, 32]⟩ .f32) (x6 : FVec Ideal ⟨3, ![5, 32, 32]⟩ .f32)
    (x7 x8 x9 x10 x11 x12 x13 x14 x15 : FVec Ideal ⟨2, ![5, 32]⟩ .f32) (x16 : FVec Ideal ⟨2, ![32, 32]⟩ .f32)
    (x17 : FVec Ideal ⟨1, ![32]⟩ .f32)
    (h1 : (Cert.Pre_tame.fn x0 x1 x2 x3 x4 x5 x6 x7 x8 x9 x10 x11 x12 x13 x14 x15 x16 x17).1 = fun _ => 1#1)
    (h2 : (Cert.Pre_tame.fn x0 x1 x2 x3 x4 x5 x6 x7 x8 x9 x10 x11 x12 x13 x14 x15 x16 x17).2.1 = fun _ => 1#1)
    (h3 : (Cert.Pre_tame.fn x0 x1 x2 x3 x4 x5 x6 x7 x8 x9 x10 x11 x12 x13 x14 x15 x16 x17).2.2 = fun _ => 1#1) :
    Tame (paramsOf x2 x3 x4 x5 x6 x7 x8 x9 x10 x11 x12 x13 x14 x15 x16 x17)
      ∧ ∀ b, ∃ s : Fin 5, x1 (ix1 b) = BitVec.ofNat 32 s.val := by
  have a1 : ∀ (e : Fin 5) (k : Fin 32), (∃ r : ℝ, x8 (ix2 e k) = r) ∧ (∃ r : ℝ, x9 (ix2 e k) = r)
      ∧ (∃ r : ℝ, x10 (ix2 e k) = r) ∧ (∃ r : ℝ, x12 (ix2 e k) = r) ∧ (∃ r : ℝ, x14 (ix2 e k) = r)
      ∧ 0 < x11 (ix2 e k) + eps ∧ 0 < x15 (ix2 e k) + eps := by
    intro e k
    have a := congrFun h1 (ix2 e k)
    pointwise [Cert.Pre_tame.fn, Cert.Pre_tame.fn_part1, Cert.Pre_tame.fn_part2] at a
    simp only [IntOp.andi_eq_one] at a
    obtain ⟨⟨⟨⟨⟨⟨a8, a9⟩, a10⟩, a12⟩, a14⟩, a11⟩, a15⟩ := a
    exact ⟨real_of_lt a8, real_of_lt a9, real_of_lt a10, real_of_lt a12, real_of_lt a14, lt_of_one a11, lt_of_one a15⟩
  have a2 : ∀ (e : Fin 5) (k j : Fin 32), ∃ r : ℝ, x4 (ix3 e k j) = r := by
    intro e k j
    have a := congrFun h2 (ix3 e k j)
    pointwise [Cert.Pre_tame.fn, Cert.Pre_tame.fn_part1, Cert.Pre_tame.fn_part2] at a
    exact real_of_lt a
  refine ⟨{
    W2 := a2
    g1 := fun e k => (a1 e k).1
    beta1 := fun e k => (a1 e k).2.1
    m1 := fun e k => (a1 e k).2.2.1
    g2 := fun e k => (a1 e k).2.2.2.1
    m2 := fun e k => (a1 e k).2.2.2.2.1
    v1 := fun e k => (a1 e k).2.2.2.2.2.1
    v2 := fun e k => (a1 e k).2.2.2.2.2.2 }, fun b => ?_⟩
  have a := congrFun h3 (ix1 b)
  pointwise [Cert.Pre_tame.fn, Cert.Pre_tame.fn_part1, Cert.Pre_tame.fn_part2] at a
  simp only [IntOp.andi_eq_one] at a
  exact species_of_bounds a.1 a.2

end Cert.Branch

end
-- ==== Proof.lean ====
/-
  The claims, assembled: the frames of the three programs, the idealised kernel the same program as the printed one, and
  the idealised kernel's result equal to the idealised reference's under the precondition.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.RefValue
public import proofs.«01_k».proof.Proof.KernelValue
public import proofs.«01_k».proof.Proof.Pre
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem Cert.Branch

/-- The shapes the precondition's constants spread over. -/
theorem pre_facts : Cert.Pre_tame.Facts where
  bcast_S_S5x32 := by decide
  bcast_S_S5x32x32 := by decide
  bcast_S_S16384 := by decide

/-- Every run of the reference ends with its arguments as they were and no semaphore raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

attribute [local instance] pre_facts

/-- Under the precondition the kernel's result at a token and a feature is the reference's computation of the token. -/
theorem kernel_entry (m : (ℓ : Loc Cert.KernelIdeal.nD Cert.KernelIdeal.τ Cert.KernelIdeal.sig) → Buf (Elt Ideal) ℓ)
    (hpre : Pre_KernelIdeal_tame m) (c : Dev Cert.KernelIdeal.nD) (b : Fin 16384) (j : Fin 32) :
    ∃ s : Fin 5, m ((c : Thread Cert.KernelIdeal.nD Cert.KernelIdeal.τ).loc Cert.KernelIdeal.main_arg1) (ix1 b)
        = BitVec.ofNat 32 s.val
      ∧ Cert.KernelIdeal.Value.G18 m c (ix2 b j) = outcome (given m c)
          (fun d => m ((c : Thread Cert.KernelIdeal.nD Cert.KernelIdeal.τ).loc Cert.KernelIdeal.main_arg0) (ix2 b d)) s j := by
  obtain ⟨ht, hs⟩ := tame_of _ _ _ _ _ _ _ _ _ _ _ _ _ _ _ _ _ _ (hpre c).1 (hpre c).2.1 (hpre c).2.2
  obtain ⟨s, hs⟩ := hs b
  refine ⟨s, hs, ?_⟩
  rw [result_apply]
  refine wideOutcome_eq _ ht _ s (fun r => ?_) j
  rw [hs]
  constructor
  · intro h
    have h := congrArg BitVec.toNat h
    simp only [BitVec.toNat_ofNat] at h
    omega
  · intro h
    rw [h]

/-- Under the precondition, and on equal arguments, the two programs leave the same result. -/
theorem algebraic : algebraic_KernelIdeal_ReferenceIdeal_pre_tame := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v68_eq]
  obtain ⟨h0, h1, h2, h3, h4, h5, h6, h7, h8, h9, h10, h11, h12, h13, h14, h15, h16, h17⟩ := hagree c
  rw [h0, h1, h2, h3, h4, h5, h6, h7, h8, h9, h10, h11, h12, h13, h14, h15, h16, h17]
  funext y
  idx_vars y
  obtain ⟨s, hs, e⟩ := kernel_entry m hpre c y0 y1
  exact (outcome_apply _ _ _ _ _ _ _ _ _ _ _ _ _ _ _ _ _ _ y0 y1 s hs).trans e.symm

theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  (trivial : preserves_Kernel_KernelIdeal), algebraic⟩

end Cert.Proof

end
